-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v19)) (v3 : (c : Dev Cert.KernelIdeal.nD) → Buf (Elt Ideal) ((c.tc : Thread Cert.KernelIdeal.nD Cert.KernelIdeal.τ).loc Cert.KernelIdeal.main_v20)) (v4 : (c : Dev Cert.KernelIdeal.nD) → Buf (Elt Ideal) ((c.tc : Thread Cert.KernelIdeal.nD Cert.KernelIdeal.τ).loc Cert.KernelIdeal.main_v22)) (v5 : (c : Dev Cert.KernelIdeal.nD) → Buf (Elt Ideal) ((c.tc : Thread Cert.KernelIdeal.nD Cert.KernelIdeal.τ).loc Cert.KernelIdeal.main_v23)) (v6 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_v20) = v3 c
          ∧ r.2.mem ((c.tc : Thread Cert.KernelIdeal.nD Cert.KernelIdeal.τ).loc Cert.KernelIdeal.main_v22) = v4 c
          ∧ r.2.mem ((c.tc : Thread Cert.KernelIdeal.nD Cert.KernelIdeal.τ).loc Cert.KernelIdeal.main_v23) = v5 c
          ∧ r.2.mem ((c.tc : Thread Cert.KernelIdeal.nD Cert.KernelIdeal.τ).loc Cert.KernelIdeal.main_v24) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_v7) = v3 c
          ∧ r.2.mem ((c.tc : Thread Cert.ReferenceIdeal.nD Cert.ReferenceIdeal.τ).loc Cert.ReferenceIdeal.main_v54) = v4 c
          ∧ r.2.mem ((c.tc : Thread Cert.ReferenceIdeal.nD Cert.ReferenceIdeal.τ).loc Cert.ReferenceIdeal.main_v144) = v5 c
          ∧ r.2.mem ((c.tc : Thread Cert.ReferenceIdeal.nD Cert.ReferenceIdeal.τ).loc Cert.ReferenceIdeal.main_v145) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1x2048 : Shape := ⟨3, ![64, 1, 2048]⟩
abbrev S64x1x2x128 : Shape := ⟨4, ![64, 1, 2, 128]⟩
abbrev S64x2x32640x64 : Shape := ⟨4, ![64, 2, 32640, 64]⟩
abbrev S64x2x1020x128 : Shape := ⟨4, ![64, 2, 1020, 128]⟩
abbrev S64x2x32640x4 : Shape := ⟨4, ![64, 2, 32640, 4]⟩
abbrev S64x2x128x128 : Shape := ⟨4, ![64, 2, 128, 128]⟩
abbrev S128x128 : Shape := ⟨2, ![128, 128]⟩
abbrev S128x128x128 : Shape := ⟨3, ![128, 128, 128]⟩
abbrev S128x64 : Shape := ⟨2, ![128, 64]⟩
abbrev S128x4 : Shape := ⟨2, ![128, 4]⟩
abbrev S128x32x128 : Shape := ⟨3, ![128, 32, 128]⟩
abbrev S128 : Shape := ⟨1, ![128]⟩
abbrev S128x1 : Shape := ⟨2, ![128, 1]⟩
abbrev S64x16x128 : Shape := ⟨3, ![64, 16, 128]⟩
abbrev S64x2x64x32640 : Shape := ⟨4, ![64, 2, 64, 32640]⟩
abbrev S64x1020x2x128 : Shape := ⟨4, ![64, 1020, 2, 128]⟩
abbrev S64x2040x128 : Shape := ⟨3, ![64, 2040, 128]⟩
abbrev S64x2x4x32640 : Shape := ⟨4, ![64, 2, 4, 32640]⟩
abbrev S64x2x128 : Shape := ⟨3, ![64, 2, 128]⟩
abbrev S1x16x128 : Shape := ⟨3, ![1, 16, 128]⟩
abbrev S1x2x64x32640 : Shape := ⟨4, ![1, 2, 64, 32640]⟩
abbrev S1x2040x128 : Shape := ⟨3, ![1, 2040, 128]⟩
abbrev S1x2x4x32640 : Shape := ⟨4, ![1, 2, 4, 32640]⟩
abbrev S1x2x128x128 : Shape := ⟨4, ![1, 2, 128, 128]⟩
abbrev S1x2x128 : Shape := ⟨3, ![1, 2, 128]⟩
abbrev S8x1 : Shape := ⟨2, ![8, 1]⟩
abbrev S8x128 : Shape := ⟨2, ![8, 128]⟩
abbrev S1x128x128 : Shape := ⟨3, ![1, 128, 128]⟩
abbrev S1x8x128 : Shape := ⟨3, ![1, 8, 128]⟩
abbrev S1x1x64x128 : Shape := ⟨4, ![1, 1, 64, 128]⟩
abbrev S64x128 : Shape := ⟨2, ![64, 128]⟩
abbrev S64x1x128 : Shape := ⟨3, ![64, 1, 128]⟩
abbrev S128x128x1 : Shape := ⟨3, ![128, 128, 1]⟩
abbrev S128x1920 : Shape := ⟨2, ![128, 1920]⟩
abbrev S8x1920 : Shape := ⟨2, ![8, 1920]⟩
abbrev S1x1x64x1920 : Shape := ⟨4, ![1, 1, 64, 1920]⟩
abbrev S64x1920 : Shape := ⟨2, ![64, 1920]⟩
abbrev S64x1x1920 : Shape := ⟨3, ![64, 1, 1920]⟩
abbrev S64x2x1920 : Shape := ⟨3, ![64, 2, 1920]⟩
abbrev S1x1x4x1920 : Shape := ⟨4, ![1, 1, 4, 1920]⟩
abbrev S4x1920 : Shape := ⟨2, ![4, 1920]⟩
abbrev S4x1x1920 : Shape := ⟨3, ![4, 1, 1920]⟩
abbrev S4x32x1920 : Shape := ⟨3, ![4, 32, 1920]⟩
abbrev S8 : Shape := ⟨1, ![8]⟩
abbrev S1x1x128x128 : Shape := ⟨4, ![1, 1, 128, 128]⟩
abbrev S1x1x128 : Shape := ⟨3, ![1, 1, 128]⟩
abbrev S1x128 : Shape := ⟨2, ![1, 128]⟩
abbrev S64x2x1x64 : Shape := ⟨4, ![64, 2, 1, 64]⟩
abbrev S64x2x1x128 : Shape := ⟨4, ![64, 2, 1, 128]⟩
abbrev S64x2x1x4 : Shape := ⟨4, ![64, 2, 1, 4]⟩

abbrev nBuf : Space → Nat
  | .hbm => 43
  | .vmem => 35
  | .smem => 0
  | _ => 0

abbrev bufTy : (tb : Table) → Fin (tcTables nBuf tb) → BufTy
  | .hbm, ⟨0, _⟩ => ⟨S64x1x2048, .bf16⟩
  | .hbm, ⟨1, _⟩ => ⟨S64x1x2x128, .bf16⟩
  | .hbm, ⟨2, _⟩ => ⟨S64x1x2x128, .bf16⟩
  | .hbm, ⟨3, _⟩ => ⟨S64x2x32640x64, .i8⟩
  | .hbm, ⟨4, _⟩ => ⟨S64x2x1020x128, .f32⟩
  | .hbm, ⟨5, _⟩ => ⟨S64x2x1020x128, .f32⟩
  | .hbm, ⟨6, _⟩ => ⟨S64x2x32640x64, .i8⟩
  | .hbm, ⟨7, _⟩ => ⟨S64x2x32640x4, .f32⟩
  | .hbm, ⟨8, _⟩ => ⟨S64x2x32640x4, .f32⟩
  | .hbm, ⟨9, _⟩ => ⟨S64x2x128x128, .bf16⟩
  | .hbm, ⟨10, _⟩ => ⟨S64x2x128x128, .bf16⟩
  | .hbm, ⟨11, _⟩ => ⟨S128x128, .bf16⟩
  | .hbm, ⟨12, _⟩ => ⟨S128x128, .bf16⟩
  | .hbm, ⟨13, _⟩ => ⟨S128x128x128, .bf16⟩
  | .hbm, ⟨14, _⟩ => ⟨S128x64, .i32⟩
  | .hbm, ⟨15, _⟩ => ⟨S128x128, .f32⟩
  | .hbm, ⟨16, _⟩ => ⟨S128x128, .f32⟩
  | .hbm, ⟨17, _⟩ => ⟨S128x64, .i32⟩
  | .hbm, ⟨18, _⟩ => ⟨S128x4, .f32⟩
  | .hbm, ⟨19, _⟩ => ⟨S128x4, .f32⟩
  | .hbm, ⟨20, _⟩ => ⟨S128x128, .bf16⟩
  | .hbm, ⟨21, _⟩ => ⟨S128x128, .bf16⟩
  | .hbm, ⟨22, _⟩ => ⟨S64x16x128, .bf16⟩
  | .hbm, ⟨23, _⟩ => ⟨S64x2x64x32640, .i8⟩
  | .hbm, ⟨24, _⟩ => ⟨S64x1020x2x128, .f32⟩
  | .hbm, ⟨25, _⟩ => ⟨S64x2040x128, .f32⟩
  | .hbm, ⟨26, _⟩ => ⟨S64x1020x2x128, .f32⟩
  | .hbm, ⟨27, _⟩ => ⟨S64x2040x128, .f32⟩
  | .hbm, ⟨28, _⟩ => ⟨S64x2x64x32640, .i8⟩
  | .hbm, ⟨29, _⟩ => ⟨S64x2x4x32640, .f32⟩
  | .hbm, ⟨30, _⟩ => ⟨S64x2x4x32640, .f32⟩
  | .hbm, ⟨31, _⟩ => ⟨S64x2x128, .bf16⟩
  | .hbm, ⟨32, _⟩ => ⟨S64x2x128, .bf16⟩
  | .hbm, ⟨33, _⟩ => ⟨S64x16x128, .bf16⟩
  | .hbm, ⟨34, _⟩ => ⟨S64x1x2048, .bf16⟩
  | .hbm, ⟨35, _⟩ => ⟨S128x64, .i8⟩
  | .hbm, ⟨36, _⟩ => ⟨S64x2x1x64, .i8⟩
  | .hbm, ⟨37, _⟩ => ⟨S64x2x1x128, .f32⟩
  | .hbm, ⟨38, _⟩ => ⟨S64x2x1x128, .f32⟩
  | .hbm, ⟨39, _⟩ => ⟨S128x64, .i8⟩
  | .hbm, ⟨40, _⟩ => ⟨S64x2x1x64, .i8⟩
  | .hbm, ⟨41, _⟩ => ⟨S64x2x1x4, .f32⟩
  | .hbm, ⟨42, _⟩ => ⟨S64x2x1x4, .f32⟩
  | .local _ .vmem, ⟨0, _⟩ => ⟨S128x128, .bf16⟩
  | .local _ .vmem, ⟨1, _⟩ => ⟨S128x128, .bf16⟩
  | .local _ .vmem, ⟨2, _⟩ => ⟨S128x32x128, .bf16⟩
  | .local _ .vmem, ⟨3, _⟩ => ⟨S128x64, .i32⟩
  | .local _ .vmem, ⟨4, _⟩ => ⟨S128x128, .f32⟩
  | .local _ .vmem, ⟨5, _⟩ => ⟨S128x128, .f32⟩
  | .local _ .vmem, ⟨6, _⟩ => ⟨S128x64, .i32⟩
  | .local _ .vmem, ⟨7, _⟩ => ⟨S128x4, .f32⟩
  | .local _ .vmem, ⟨8, _⟩ => ⟨S128x4, .f32⟩
  | .local _ .vmem, ⟨9, _⟩ => ⟨S128x128, .bf16⟩
  | .local _ .vmem, ⟨10, _⟩ => ⟨S128x128, .bf16⟩
  | .local _ .vmem, ⟨11, _⟩ => ⟨S1x16x128, .bf16⟩
  | .local _ .vmem, ⟨12, _⟩ => ⟨S1x16x128, .bf16⟩
  | .local _ .vmem, ⟨13, _⟩ => ⟨S1x2x64x32640, .i8⟩
  | .local _ .vmem, ⟨14, _⟩ => ⟨S1x2x64x32640, .i8⟩
  | .local _ .vmem, ⟨15, _⟩ => ⟨S1x2040x128, .f32⟩
  | .local _ .vmem, ⟨16, _⟩ => ⟨S1x2040x128, .f32⟩
  | .local _ .vmem, ⟨17, _⟩ => ⟨S1x2040x128, .f32⟩
  | .local _ .vmem, ⟨18, _⟩ => ⟨S1x2040x128, .f32⟩
  | .local _ .vmem, ⟨19, _⟩ => ⟨S1x2x64x32640, .i8⟩
  | .local _ .vmem, ⟨20, _⟩ => ⟨S1x2x64x32640, .i8⟩
  | .local _ .vmem, ⟨21, _⟩ => ⟨S1x2x4x32640, .f32⟩
  | .local _ .vmem, ⟨22, _⟩ => ⟨S1x2x4x32640, .f32⟩
  | .local _ .vmem, ⟨23, _⟩ => ⟨S1x2x4x32640, .f32⟩
  | .local _ .vmem, ⟨24, _⟩ => ⟨S1x2x4x32640, .f32⟩
  | .local _ .vmem, ⟨25, _⟩ => ⟨S1x2x128x128, .bf16⟩
  | .local _ .vmem, ⟨26, _⟩ => ⟨S1x2x128x128, .bf16⟩
  | .local _ .vmem, ⟨27, _⟩ => ⟨S1x2x128x128, .bf16⟩
  | .local _ .vmem, ⟨28, _⟩ => ⟨S1x2x128x128, .bf16⟩
  | .local _ .vmem, ⟨29, _⟩ => ⟨S1x2x128, .bf16⟩
  | .local _ .vmem, ⟨30, _⟩ => ⟨S1x2x128, .bf16⟩
  | .local _ .vmem, ⟨31, _⟩ => ⟨S1x2x128, .bf16⟩
  | .local _ .vmem, ⟨32, _⟩ => ⟨S1x2x128, .bf16⟩
  | .local _ .vmem, ⟨33, _⟩ => ⟨S1x16x128, .bf16⟩
  | .local _ .vmem, ⟨34, _⟩ => ⟨S1x16x128, .bf16⟩
  | _, _ => ⟨S64x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v3_3 : Ref sig .tc := ⟨.hbm, 17, rfl⟩
abbrev main_v3_4 : Ref sig .tc := ⟨.hbm, 18, rfl⟩
abbrev main_v3_5 : Ref sig .tc := ⟨.hbm, 19, rfl⟩
abbrev main_v3_6 : Ref sig .tc := ⟨.hbm, 20, rfl⟩
abbrev main_v3_7 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc1_stg7_0 : Ref sig .tc := ⟨.vmem, 25, rfl⟩
abbrev cc1_stg7_1 : Ref sig .tc := ⟨.vmem, 26, rfl⟩
abbrev cc1_stg8_0 : Ref sig .tc := ⟨.vmem, 27, rfl⟩
abbrev cc1_stg8_1 : Ref sig .tc := ⟨.vmem, 28, rfl⟩
abbrev cc1_stg9_0 : Ref sig .tc := ⟨.vmem, 29, rfl⟩
abbrev cc1_stg9_1 : Ref sig .tc := ⟨.vmem, 30, rfl⟩
abbrev cc1_stg10_0 : Ref sig .tc := ⟨.vmem, 31, rfl⟩
abbrev cc1_stg10_1 : Ref sig .tc := ⟨.vmem, 32, rfl⟩
abbrev cc1_stg11_0 : Ref sig .tc := ⟨.vmem, 33, rfl⟩
abbrev cc1_stg11_1 : Ref sig .tc := ⟨.vmem, 34, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24
abbrev cc1_sem7_0 : DmaSem sig := 25
abbrev cc1_sem7_1 : DmaSem sig := 26
abbrev cc1_sem8_0 : DmaSem sig := 27
abbrev cc1_sem8_1 : DmaSem sig := 28
abbrev cc1_sem9_0 : DmaSem sig := 29
abbrev cc1_sem9_1 : DmaSem sig := 30
abbrev cc1_sem10_0 : DmaSem sig := 31
abbrev cc1_sem10_1 : DmaSem sig := 32
abbrev cc1_sem11_0 : DmaSem sig := 33
abbrev cc1_sem11_1 : DmaSem sig := 34

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  let c0_i32_1 : BitVec 32 := 0#32
  ![c0_i32.toNat, c3_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x32x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![64], ![false]⟩

@[reducible] def k1_t1_loop : Scf.Loop 32 :=
  let c0_i32_9 : BitVec 32 := 0#32
  let c17_i32 : BitVec 32 := 17#32
  let v33 : BitVec 32 := Scalar.addi c0_i32_9 c17_i32
  let c1_i32_10 : BitVec 32 := 1#32
  ⟨c0_i32_9, v33, c1_i32_10⟩
def k1_mult1 (k1_t1 : Fin k1_t1_loop.trips) : BitVec 32 :=
  let c0_i32_9 : BitVec 32 := 0#32
  let c1_i32_10 : BitVec 32 := 1#32
  let arg13 : BitVec 32 := Scf.iv c0_i32_9 c1_i32_10 k1_t1
  let c120_i32 : BitVec 32 := 120#32
  let v159 : BitVec 32 := Scalar.muli arg13 c120_i32
  let c1912_i32 : BitVec 32 := 1912#32
  let v160 : BitVec 32 := Scalar.minsi v159 c1912_i32
  v160
def k1_off1 (k1_t1 : Fin k1_t1_loop.trips) : Fin 3 → Nat :=
  let c0_68 : Index := 0#32
  let c0_i32_9 : BitVec 32 := 0#32
  let c1_i32_10 : BitVec 32 := 1#32
  let arg13 : BitVec 32 := Scf.iv c0_i32_9 c1_i32_10 k1_t1
  let c120_i32 : BitVec 32 := 120#32
  let v159 : BitVec 32 := Scalar.muli arg13 c120_i32
  let c1912_i32 : BitVec 32 := 1912#32
  let v160 : BitVec 32 := Scalar.minsi v159 c1912_i32
  let v161 : BitVec 32 := v160
  let v164 : Index := Scalar.indexCast v161
  let c0_69 : Index := 0#32
  ![0, v164.toNat, 0]
def k1_mult2 (k1_t1 : Fin k1_t1_loop.trips) : BitVec 32 :=
  let c0_i32_9 : BitVec 32 := 0#32
  let c1_i32_10 : BitVec 32 := 1#32
  let arg13 : BitVec 32 := Scf.iv c0_i32_9 c1_i32_10 k1_t1
  let c1920_i32 : BitVec 32 := 1920#32
  let v176 : BitVec 32 := Scalar.muli arg13 c1920_i32
  v176
def k1_off2 (k1_t1 : Fin k1_t1_loop.trips) (c0_i32_76 : BitVec 32) : Fin 4 → Nat :=
  let c0_77 : Index := 0#32
  let c0_78 : Index := 0#32
  let c0_79 : Index := 0#32
  let c0_i32_9 : BitVec 32 := 0#32
  let c1_i32_10 : BitVec 32 := 1#32
  let arg13 : BitVec 32 := Scf.iv c0_i32_9 c1_i32_10 k1_t1
  let c1920_i32 : BitVec 32 := 1920#32
  let v176 : BitVec 32 := Scalar.muli arg13 c1920_i32
  let v177 : BitVec 32 := v176
  let v183 : BitVec 32 := Scalar.addi v177 c0_i32_76
  let v184 : Index := Scalar.indexCast v183
  ![0, 0, 0, v184.toNat]
def k1_off3 (k1_t1 : Fin k1_t1_loop.trips) : Fin 4 → Nat :=
  let c0_213 : Index := 0#32
  let c0_214 : Index := 0#32
  let c0_215 : Index := 0#32
  let c0_i32_9 : BitVec 32 := 0#32
  let c1_i32_10 : BitVec 32 := 1#32
  let arg13 : BitVec 32 := Scf.iv c0_i32_9 c1_i32_10 k1_t1
  let c1920_i32 : BitVec 32 := 1920#32
  let v176 : BitVec 32 := Scalar.muli arg13 c1920_i32
  let v177 : BitVec 32 := v176
  let v739 : Index := Scalar.indexCast v177
  ![0, 0, 0, v739.toNat]
def k1_off4 (k1_t1 : Fin k1_t1_loop.trips) : Fin 4 → Nat :=
  let c0_218 : Index := 0#32
  let c0_219 : Index := 0#32
  let c0_220 : Index := 0#32
  let c0_i32_9 : BitVec 32 := 0#32
  let c1_i32_10 : BitVec 32 := 1#32
  let arg13 : BitVec 32 := Scf.iv c0_i32_9 c1_i32_10 k1_t1
  let c1920_i32 : BitVec 32 := 1920#32
  let v176 : BitVec 32 := Scalar.muli arg13 c1920_i32
  let v177 : BitVec 32 := v176
  let v752 : Index := Scalar.indexCast v177
  ![0, 0, 0, v752.toNat]
def k1_off5 (k1_t1 : Fin k1_t1_loop.trips) (c0_i32_231 : BitVec 32) : Fin 4 → Nat :=
  let c0_232 : Index := 0#32
  let c1_233 : Index := 1#32
  let c0_234 : Index := 0#32
  let c0_i32_9 : BitVec 32 := 0#32
  let c1_i32_10 : BitVec 32 := 1#32
  let arg13 : BitVec 32 := Scf.iv c0_i32_9 c1_i32_10 k1_t1
  let c1920_i32 : BitVec 32 := 1920#32
  let v176 : BitVec 32 := Scalar.muli arg13 c1920_i32
  let v177 : BitVec 32 := v176
  let v792 : BitVec 32 := Scalar.addi v177 c0_i32_231
  let v793 : Index := Scalar.indexCast v792
  ![0, 1, 0, v793.toNat]
def k1_off6 (k1_t1 : Fin k1_t1_loop.trips) : Fin 4 → Nat :=
  let c0_384 : Index := 0#32
  let c1_385 : Index := 1#32
  let c0_386 : Index := 0#32
  let c0_i32_9 : BitVec 32 := 0#32
  let c1_i32_10 : BitVec 32 := 1#32
  let arg13 : BitVec 32 := Scf.iv c0_i32_9 c1_i32_10 k1_t1
  let c1920_i32 : BitVec 32 := 1920#32
  let v176 : BitVec 32 := Scalar.muli arg13 c1920_i32
  let v177 : BitVec 32 := v176
  let v1348 : Index := Scalar.indexCast v177
  ![0, 1, 0, v1348.toNat]
def k1_off7 (k1_t1 : Fin k1_t1_loop.trips) : Fin 4 → Nat :=
  let c0_389 : Index := 0#32
  let c1_390 : Index := 1#32
  let c0_391 : Index := 0#32
  let c0_i32_9 : BitVec 32 := 0#32
  let c1_i32_10 : BitVec 32 := 1#32
  let arg13 : BitVec 32 := Scf.iv c0_i32_9 c1_i32_10 k1_t1
  let c1920_i32 : BitVec 32 := 1920#32
  let v176 : BitVec 32 := Scalar.muli arg13 c1920_i32
  let v177 : BitVec 32 := v176
  let v1361 : Index := Scalar.indexCast v177
  ![0, 1, 0, v1361.toNat]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_7 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_8 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x16x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2x64x32640 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2040x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x2040x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x2x64x32640 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x2x4x32640 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x2x4x32640 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x2x128x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x2x128x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x2x128 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x2x128 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x16x128 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== ReferenceIdeal.lean ====
abbrev S64x1x2048 : Shape := ⟨3, ![64, 1, 2048]⟩
abbrev S64x1x2x128 : Shape := ⟨4, ![64, 1, 2, 128]⟩
abbrev S64x2x32640x64 : Shape := ⟨4, ![64, 2, 32640, 64]⟩
abbrev S64x2x1020x128 : Shape := ⟨4, ![64, 2, 1020, 128]⟩
abbrev S64x2x32640x4 : Shape := ⟨4, ![64, 2, 32640, 4]⟩
abbrev S64x2x128x128 : Shape := ⟨4, ![64, 2, 128, 128]⟩
abbrev S64x2x8x128 : Shape := ⟨4, ![64, 2, 8, 128]⟩
abbrev S64x2x1x128 : Shape := ⟨4, ![64, 2, 1, 128]⟩
abbrev S64x2x31x128 : Shape := ⟨4, ![64, 2, 31, 128]⟩
abbrev S64x2x32x128 : Shape := ⟨4, ![64, 2, 32, 128]⟩
abbrev S_ : Shape := ⟨0, ![]⟩
abbrev S64x2x128 : Shape := ⟨3, ![64, 2, 128]⟩
abbrev S64x2x1x4x32 : Shape := ⟨5, ![64, 2, 1, 4, 32]⟩
abbrev S64x2x1x4 : Shape := ⟨4, ![64, 2, 1, 4]⟩
abbrev S64x2x1x4x1 : Shape := ⟨5, ![64, 2, 1, 4, 1]⟩
abbrev S64x2x1x64 : Shape := ⟨4, ![64, 2, 1, 64]⟩
abbrev S64x2x1x64x1 : Shape := ⟨5, ![64, 2, 1, 64, 1]⟩
abbrev S64x2x1x64x2 : Shape := ⟨5, ![64, 2, 1, 64, 2]⟩
abbrev S64x2x32640x64x1 : Shape := ⟨5, ![64, 2, 32640, 64, 1]⟩
abbrev S64x2x32640x64x2 : Shape := ⟨5, ![64, 2, 32640, 64, 2]⟩
abbrev S64x2x32640x128 : Shape := ⟨4, ![64, 2, 32640, 128]⟩
abbrev S64x2x1020x32x128 : Shape := ⟨5, ![64, 2, 1020, 32, 128]⟩
abbrev S64x2x1020x1x128 : Shape := ⟨5, ![64, 2, 1020, 1, 128]⟩
abbrev S64x2x32640x4x32 : Shape := ⟨5, ![64, 2, 32640, 4, 32]⟩
abbrev S64x2x32640x4x1 : Shape := ⟨5, ![64, 2, 32640, 4, 1]⟩
abbrev S64x2x32769x128 : Shape := ⟨4, ![64, 2, 32769, 128]⟩
abbrev S64x2x8x32769 : Shape := ⟨4, ![64, 2, 8, 32769]⟩
abbrev S64x2x8 : Shape := ⟨3, ![64, 2, 8]⟩
abbrev S64x2x8x1 : Shape := ⟨4, ![64, 2, 8, 1]⟩

abbrev nBuf : Space → Nat
  | .hbm => 198
  | .vmem => 0
  | .smem => 0
  | _ => 0

abbrev hbmTy0_0 (i : Nat) : BufTy := match i % 128 with
  | 0 => ⟨S64x1x2048, .bf16⟩
  | 1 => ⟨S64x1x2x128, .bf16⟩
  | 2 => ⟨S64x1x2x128, .bf16⟩
  | 3 => ⟨S64x2x32640x64, .i8⟩
  | 4 => ⟨S64x2x1020x128, .f32⟩
  | 5 => ⟨S64x2x1020x128, .f32⟩
  | 6 => ⟨S64x2x32640x64, .i8⟩
  | 7 => ⟨S64x2x32640x4, .f32⟩
  | 8 => ⟨S64x2x32640x4, .f32⟩
  | 9 => ⟨S64x2x128x128, .bf16⟩
  | 10 => ⟨S64x2x128x128, .bf16⟩
  | 11 => ⟨S64x2x8x128, .bf16⟩
  | 12 => ⟨S64x2x1x128, .bf16⟩
  | 13 => ⟨S64x2x1x128, .bf16⟩
  | 14 => ⟨S64x2x31x128, .bf16⟩
  | 15 => ⟨S64x2x32x128, .bf16⟩
  | 16 => ⟨S64x2x32x128, .f32⟩
  | 17 => ⟨S_, .f32⟩
  | 18 => ⟨S64x2x128, .f32⟩
  | 19 => ⟨S64x2x1x128, .f32⟩
  | 20 => ⟨S_, .f32⟩
  | 21 => ⟨S64x2x128, .f32⟩
  | 22 => ⟨S64x2x1x128, .f32⟩
  | 23 => ⟨S64x2x1x128, .f32⟩
  | 24 => ⟨S_, .f32⟩
  | 25 => ⟨S64x2x1x128, .f32⟩
  | 26 => ⟨S64x2x1x128, .i1⟩
  | 27 => ⟨S_, .f32⟩
  | 28 => ⟨S64x2x1x128, .f32⟩
  | 29 => ⟨S64x2x1x128, .f32⟩
  | 30 => ⟨S_, .f32⟩
  | 31 => ⟨S_, .f32⟩
  | 32 => ⟨S64x2x1x128, .f32⟩
  | 33 => ⟨S64x2x1x128, .f32⟩
  | 34 => ⟨S64x2x1x128, .f32⟩
  | 35 => ⟨S64x2x1x128, .f32⟩
  | 36 => ⟨S64x2x1x128, .f32⟩
  | 37 => ⟨S64x2x1x128, .f32⟩
  | 38 => ⟨S_, .f32⟩
  | 39 => ⟨S_, .f32⟩
  | 40 => ⟨S_, .f32⟩
  | 41 => ⟨S64x2x1x128, .f32⟩
  | 42 => ⟨S64x2x1x128, .f32⟩
  | 43 => ⟨S_, .f32⟩
  | 44 => ⟨S64x2x1x128, .f32⟩
  | 45 => ⟨S64x2x1x128, .f32⟩
  | 46 => ⟨S64x2x1x128, .i32⟩
  | 47 => ⟨S64x2x1x4x32, .bf16⟩
  | 48 => ⟨S64x2x1x4x32, .f32⟩
  | 49 => ⟨S_, .f32⟩
  | 50 => ⟨S64x2x1x4, .f32⟩
  | 51 => ⟨S64x2x1x4x1, .f32⟩
  | 52 => ⟨S_, .f32⟩
  | 53 => ⟨S64x2x1x4, .f32⟩
  | 54 => ⟨S64x2x1x4x1, .f32⟩
  | 55 => ⟨S64x2x1x4x1, .f32⟩
  | 56 => ⟨S_, .f32⟩
  | 57 => ⟨S64x2x1x4x1, .f32⟩
  | 58 => ⟨S64x2x1x4x1, .i1⟩
  | 59 => ⟨S_, .f32⟩
  | 60 => ⟨S64x2x1x4x1, .f32⟩
  | 61 => ⟨S64x2x1x4x1, .f32⟩
  | 62 => ⟨S_, .f32⟩
  | 63 => ⟨S_, .f32⟩
  | 64 => ⟨S64x2x1x4x1, .f32⟩
  | 65 => ⟨S64x2x1x4x1, .f32⟩
  | 66 => ⟨S64x2x1x4x32, .f32⟩
  | 67 => ⟨S64x2x1x4x32, .f32⟩
  | 68 => ⟨S64x2x1x4x32, .f32⟩
  | 69 => ⟨S64x2x1x4x32, .f32⟩
  | 70 => ⟨S64x2x1x4x32, .f32⟩
  | 71 => ⟨S64x2x1x4x32, .f32⟩
  | 72 => ⟨S_, .f32⟩
  | 73 => ⟨S_, .f32⟩
  | 74 => ⟨S_, .f32⟩
  | 75 => ⟨S64x2x1x4x32, .f32⟩
  | 76 => ⟨S64x2x1x4x32, .f32⟩
  | 77 => ⟨S_, .f32⟩
  | 78 => ⟨S64x2x1x4x32, .f32⟩
  | 79 => ⟨S64x2x1x4x32, .f32⟩
  | 80 => ⟨S64x2x1x4x32, .i32⟩
  | 81 => ⟨S64x2x1x64, .i32⟩
  | 82 => ⟨S64x2x1x64, .i32⟩
  | 83 => ⟨S_, .i32⟩
  | 84 => ⟨S64x2x1x64, .i32⟩
  | 85 => ⟨S64x2x1x64, .i32⟩
  | 86 => ⟨S64x2x1x64, .i32⟩
  | 87 => ⟨S64x2x1x64, .i8⟩
  | 88 => ⟨S64x2x1x128, .i32⟩
  | 89 => ⟨S64x2x1x64, .i32⟩
  | 90 => ⟨S64x2x1x64, .i32⟩
  | 91 => ⟨S_, .i32⟩
  | 92 => ⟨S64x2x1x64, .i32⟩
  | 93 => ⟨S64x2x1x64, .i32⟩
  | 94 => ⟨S64x2x1x64, .i32⟩
  | 95 => ⟨S64x2x1x64, .i8⟩
  | 96 => ⟨S64x2x1x64, .i32⟩
  | 97 => ⟨S_, .i32⟩
  | 98 => ⟨S64x2x1x64, .i32⟩
  | 99 => ⟨S64x2x1x64, .i32⟩
  | 100 => ⟨S_, .i32⟩
  | 101 => ⟨S64x2x1x64, .i32⟩
  | 102 => ⟨S64x2x1x64, .i32⟩
  | 103 => ⟨S64x2x1x64x1, .i32⟩
  | 104 => ⟨S64x2x1x64x1, .i32⟩
  | 105 => ⟨S64x2x1x64x2, .i32⟩
  | 106 => ⟨S64x2x1x128, .i32⟩
  | 107 => ⟨S64x2x1x128, .bf16⟩
  | 108 => ⟨S64x2x1x128, .bf16⟩
  | 109 => ⟨S64x2x1x128, .bf16⟩
  | 110 => ⟨S64x2x1x128, .bf16⟩
  | 111 => ⟨S64x2x1x128, .bf16⟩
  | 112 => ⟨S64x2x1x64, .i32⟩
  | 113 => ⟨S_, .i32⟩
  | 114 => ⟨S64x2x1x64, .i32⟩
  | 115 => ⟨S64x2x1x64, .i32⟩
  | 116 => ⟨S_, .i32⟩
  | 117 => ⟨S64x2x1x64, .i32⟩
  | 118 => ⟨S64x2x1x64, .i32⟩
  | 119 => ⟨S64x2x1x64x1, .i32⟩
  | 120 => ⟨S64x2x1x64x1, .i32⟩
  | 121 => ⟨S64x2x1x64x2, .i32⟩
  | 122 => ⟨S64x2x1x128, .i32⟩
  | 123 => ⟨S64x2x1x4x32, .i32⟩
  | 124 => ⟨S64x2x1x4x32, .bf16⟩
  | 125 => ⟨S64x2x1x4x1, .bf16⟩
  | 126 => ⟨S64x2x1x4x32, .bf16⟩
  | 127 => ⟨S64x2x1x4x32, .bf16⟩
  | _ => ⟨S64x1x2048, .bf16⟩

abbrev hbmTy0_1 (i : Nat) : BufTy := match i % 128 with
  | 0 => ⟨S64x2x1x4x1, .bf16⟩
  | 1 => ⟨S64x2x1x4x32, .bf16⟩
  | 2 => ⟨S64x2x1x4x32, .bf16⟩
  | 3 => ⟨S64x2x1x128, .bf16⟩
  | 4 => ⟨S64x2x32640x64, .i32⟩
  | 5 => ⟨S_, .i32⟩
  | 6 => ⟨S64x2x32640x64, .i32⟩
  | 7 => ⟨S64x2x32640x64, .i32⟩
  | 8 => ⟨S_, .i32⟩
  | 9 => ⟨S64x2x32640x64, .i32⟩
  | 10 => ⟨S64x2x32640x64, .i32⟩
  | 11 => ⟨S64x2x32640x64x1, .i32⟩
  | 12 => ⟨S64x2x32640x64x1, .i32⟩
  | 13 => ⟨S64x2x32640x64x2, .i32⟩
  | 14 => ⟨S64x2x32640x128, .i32⟩
  | 15 => ⟨S64x2x1020x32x128, .i32⟩
  | 16 => ⟨S64x2x1020x1x128, .f32⟩
  | 17 => ⟨S64x2x1020x1x128, .f32⟩
  | 18 => ⟨S64x2x1020x32x128, .bf16⟩
  | 19 => ⟨S64x2x1020x1x128, .bf16⟩
  | 20 => ⟨S64x2x1020x32x128, .bf16⟩
  | 21 => ⟨S64x2x1020x32x128, .bf16⟩
  | 22 => ⟨S64x2x1020x1x128, .bf16⟩
  | 23 => ⟨S64x2x1020x32x128, .bf16⟩
  | 24 => ⟨S64x2x1020x32x128, .bf16⟩
  | 25 => ⟨S64x2x32640x128, .bf16⟩
  | 26 => ⟨S64x2x32640x64, .i32⟩
  | 27 => ⟨S_, .i32⟩
  | 28 => ⟨S64x2x32640x64, .i32⟩
  | 29 => ⟨S64x2x32640x64, .i32⟩
  | 30 => ⟨S_, .i32⟩
  | 31 => ⟨S64x2x32640x64, .i32⟩
  | 32 => ⟨S64x2x32640x64, .i32⟩
  | 33 => ⟨S64x2x32640x64x1, .i32⟩
  | 34 => ⟨S64x2x32640x64x1, .i32⟩
  | 35 => ⟨S64x2x32640x64x2, .i32⟩
  | 36 => ⟨S64x2x32640x128, .i32⟩
  | 37 => ⟨S64x2x32640x4x32, .i32⟩
  | 38 => ⟨S64x2x32640x4x1, .f32⟩
  | 39 => ⟨S64x2x32640x4x1, .f32⟩
  | 40 => ⟨S64x2x32640x4x32, .bf16⟩
  | 41 => ⟨S64x2x32640x4x1, .bf16⟩
  | 42 => ⟨S64x2x32640x4x32, .bf16⟩
  | 43 => ⟨S64x2x32640x4x32, .bf16⟩
  | 44 => ⟨S64x2x32640x4x1, .bf16⟩
  | 45 => ⟨S64x2x32640x4x32, .bf16⟩
  | 46 => ⟨S64x2x32640x4x32, .bf16⟩
  | 47 => ⟨S64x2x32640x128, .bf16⟩
  | 48 => ⟨S64x2x32769x128, .bf16⟩
  | 49 => ⟨S64x2x32769x128, .bf16⟩
  | 50 => ⟨S64x2x8x32769, .f32⟩
  | 51 => ⟨S_, .f32⟩
  | 52 => ⟨S64x2x8x32769, .f32⟩
  | 53 => ⟨S64x2x8x32769, .f32⟩
  | 54 => ⟨S_, .f32⟩
  | 55 => ⟨S64x2x8, .f32⟩
  | 56 => ⟨S64x2x8x1, .f32⟩
  | 57 => ⟨S64x2x8x32769, .f32⟩
  | 58 => ⟨S64x2x8x32769, .f32⟩
  | 59 => ⟨S64x2x8x32769, .f32⟩
  | 60 => ⟨S_, .f32⟩
  | 61 => ⟨S64x2x8, .f32⟩
  | 62 => ⟨S64x2x8x1, .f32⟩
  | 63 => ⟨S64x2x8x128, .f32⟩
  | 64 => ⟨S64x2x8x128, .f32⟩
  | 65 => ⟨S64x2x8x128, .f32⟩
  | 66 => ⟨S64x1x2048, .f32⟩
  | 67 => ⟨S64x1x2048, .bf16⟩
  | 68 => ⟨S64x2x1x4, .f32⟩
  | 69 => ⟨S64x2x1x4, .f32⟩
  | _ => ⟨S64x1x2048, .bf16⟩

abbrev hbmTy (i : Nat) : BufTy := match i / 128 with
  | 0 => hbmTy0_0 i
  | 1 => hbmTy0_1 i
  | _ => ⟨S64x1x2048, .bf16⟩

abbrev bufTy : (tb : Table) → Fin (tcTables nBuf tb) → BufTy
  | .hbm, ⟨i, _⟩ => hbmTy i
  | _, _ => ⟨S64x1x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_cst_5 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_6 : Ref sig .tc := ⟨.hbm, 49, rfl⟩
abbrev main_v24 : Ref sig .tc := ⟨.hbm, 50, rfl⟩
abbrev main_v25 : Ref sig .tc := ⟨.hbm, 51, rfl⟩
abbrev main_cst_7 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_8 : Ref sig .tc := ⟨.hbm, 56, rfl⟩
abbrev main_v29 : Ref sig .tc := ⟨.hbm, 57, rfl⟩
abbrev main_v30 : Ref sig .tc := ⟨.hbm, 58, rfl⟩
abbrev main_cst_9 : Ref sig .tc := ⟨.hbm, 59, rfl⟩
abbrev main_v31 : Ref sig .tc := ⟨.hbm, 60, rfl⟩
abbrev main_v32 : Ref sig .tc := ⟨.hbm, 61, rfl⟩
abbrev main_cst_10 : Ref sig .tc := ⟨.hbm, 62, rfl⟩
abbrev main_call3_v0 : Ref sig .tc := ⟨.hbm, 63, rfl⟩
abbrev main_call3_v1 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_11 : Ref sig .tc := ⟨.hbm, 72, rfl⟩
abbrev main_cst_12 : Ref sig .tc := ⟨.hbm, 73, rfl⟩
abbrev main_call5_v0 : Ref sig .tc := ⟨.hbm, 74, rfl⟩
abbrev main_call5_v1 : Ref sig .tc := ⟨.hbm, 75, rfl⟩
abbrev main_call5_v2 : Ref sig .tc := ⟨.hbm, 76, rfl⟩
abbrev main_call5_v3 : Ref sig .tc := ⟨.hbm, 77, rfl⟩
abbrev main_call5_v4 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_c : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_c_13 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_c_14 : Ref sig .tc := ⟨.hbm, 97, rfl⟩
abbrev main_v56 : Ref sig .tc := ⟨.hbm, 98, rfl⟩
abbrev main_v57 : Ref sig .tc := ⟨.hbm, 99, rfl⟩
abbrev main_c_15 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_c_16 : Ref sig .tc := ⟨.hbm, 113, rfl⟩
abbrev main_v70 : Ref sig .tc := ⟨.hbm, 114, rfl⟩
abbrev main_v71 : Ref sig .tc := ⟨.hbm, 115, rfl⟩
abbrev main_c_17 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_c_18 : Ref sig .tc := ⟨.hbm, 133, rfl⟩
abbrev main_v88 : Ref sig .tc := ⟨.hbm, 134, rfl⟩
abbrev main_v89 : Ref sig .tc := ⟨.hbm, 135, rfl⟩
abbrev main_c_19 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_c_20 : Ref sig .tc := ⟨.hbm, 155, rfl⟩
abbrev main_v108 : Ref sig .tc := ⟨.hbm, 156, rfl⟩
abbrev main_v109 : Ref sig .tc := ⟨.hbm, 157, rfl⟩
abbrev main_c_21 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_22 : Ref sig .tc := ⟨.hbm, 179, rfl⟩
abbrev main_v130 : Ref sig .tc := ⟨.hbm, 180, rfl⟩
abbrev main_v131 : Ref sig .tc := ⟨.hbm, 181, rfl⟩
abbrev main_cst_23 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_cst_24 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩

abbrev nD : Nat := 1
abbrev τ : Topo := Topo.v7x

variable {F : FTy → Type} [FloatOps F]
-- ==== Proof.Tile.lean ====
/- The blocks the attention kernel's chunk loop computes, as plain compositions of its payloads.

One trip of the loop dequantises fifteen 128-lane tiles of keys per head, puts them side by side, scores them against
the eight queries of the head and folds scores and values into the head's running softmax. Here the two heads'
fifteen tiles are shown to be one function `tileK` at the tile's index table and code load, and the scores of
either head one function `scoreK` of the fifteen tiles. -/
module

public import proofs.«01_k».proof.Proof.Gen.KernelIdeal.Loops
public import Idealize.ShloMosaic.Lib.Pipeline.ValueKit

@[expose] public section

set_option maxRecDepth 16384

noncomputable section

open Idealize.ShloMosaic

namespace Cert.KernelIdeal.Attn

open Cert.KernelIdeal Cert.KernelIdeal.Gen

variable {F : FTy → Type} [FloatOps F]

/-- One tile of keys: codes times gathered scales plus gathered zeros, the gather's index wrapped where negative. -/
def tileK (ks kz : FVec F S128x128 .f32) (idx : IVec S128x128 32) (x : Vec F S1x1x64x128 .i8) : FVec F S128x128 .bf16 :=
  k1_pay7 ks kz idx (k1_pay5 x) (cmpi .slt idx (broadcast S128x128 0#32))

/-- The index table of a tile: the lane's group, twice, plus a scalar. -/
def idxK (o v : BitVec 32) : IVec S128x128 32 := addi k1_pay97 (broadcast S128x128 (Scalar.addi o v))

/-- The scores of eight queries against fifteen tiles. -/
def scoreK (q : FVec F S8x128 .bf16) (T : Fin 15 → FVec F S128x128 .bf16) : FVec F S8x1920 .f32 :=
  mulf (matmul dot_S8x128_S128x1920_S8x1920_1_0_0_1_n_n none q
      (concatenate S128x1920 1 (List.ofFn fun j => (⟨S128x128, T j⟩ : Σ s : Shape, s.Idx → F .bf16))
        concatenates_S128x128_S128x128_S128x128_S128x128_S128x128_S128x128_S128x128_S128x128_S128x128_S128x128_S128x128_S128x128_S128x128_S128x128_S128x128_S128x1920_d1)
      (constant S8x1920 .f32 0x00000000#32))
    (broadcast S8x1920 (Scalar.ofBits .f32 0x3DB504F3#32))

/-- Tile `j` of head 0's code block at chunk `k`. -/
def ldK0 (arg2 : Memref sig .tc .vmem S1x2x64x32640 .i8) (X : arg2.view.ty.Contents (Elt F)) (k : Fin k1_t1_loop.trips) (j : Fin 15) :
    Vec F S1x1x64x128 .i8 :=
  View.readAt (Elt F) arg2.view (Rect.unit (s := S1x2x64x32640) (k1_off2 k (BitVec.ofNat 32 (128 * j.val))) S1x1x64x128.size (k1_off2_inb k j)).toLoadRect X

/-- Tile `j` of head 1's code block at chunk `k`. -/
def ldK1 (arg2 : Memref sig .tc .vmem S1x2x64x32640 .i8) (X : arg2.view.ty.Contents (Elt F)) (k : Fin k1_t1_loop.trips) (j : Fin 15) :
    Vec F S1x1x64x128 .i8 :=
  View.readAt (Elt F) arg2.view (Rect.unit (s := S1x2x64x32640) (k1_off5 k (BitVec.ofNat 32 (128 * j.val))) S1x1x64x128.size (k1_off5_inb k j)).toLoadRect X

variable (arg1 : Memref sig .tc .vmem S1x16x128 .bf16) (arg2 : Memref sig .tc .vmem S1x2x64x32640 .i8)
  (arg3 arg4 : Memref sig .tc .vmem S1x2040x128 .f32)
  (X1 : arg1.view.ty.Contents (Elt F)) (X2 : arg2.view.ty.Contents (Elt F))
  (X3 : arg3.view.ty.Contents (Elt F)) (X4 : arg4.view.ty.Contents (Elt F)) (k : Fin k1_t1_loop.trips)

open trip_k1_t1 in
/-- Head 0's scores at chunk `k`. -/
theorem score0 : sl.r_44 arg1 arg2 arg3 arg4 X1 X2 X3 X4 k
    = scoreK (sl.r_2 arg1 X1) fun j => tileK (sl.r arg3 X3 k) (sl.r_1 arg4 X4 k)
        (idxK (BitVec.ofNat 32 (8 * j.val)) (sl.v163 k)) (ldK0 arg2 X2 k j) := rfl

open trip_k1_t1 in
/-- Head 1's scores at chunk `k`. -/
theorem score1 : sl.r_82 arg1 arg2 arg3 arg4 X1 X2 X3 X4 k
    = scoreK (sl.r_49 arg1 X1) fun j => tileK (sl.r arg3 X3 k) (sl.r_1 arg4 X4 k)
        (idxK (BitVec.ofNat 32 (8 * j.val + 1)) (sl.v163 k)) (ldK1 arg2 X2 k j) := rfl

end Cert.KernelIdeal.Attn

end
-- ==== Proof.QuantMath.lean ====
/- The quantiser, as plain arithmetic.

A group of values with smallest value `lo` and largest value `hi` is stored as four-bit codes.
`qscale` is the step, `qcode` the code of one value as the ideal arithmetic computes it.  The code
is always one of the whole numbers `0 … 15` (`qcode_eq`), whatever the inputs are, infinities
included; `qnat` is that number.  The rest of the module says that two codes packed into a byte come
back unchanged, and rewrites the folds that find a group's smallest and largest value.
-/
module

public import proofs.«01_k».proof.Proof.Tile
public import Idealize.ShloMosaic.Lib.Pipeline.ValueKit

@[expose] public section

noncomputable section

open Idealize.ShloMosaic

namespace Cert.Quant

/-- The step between two codes of a group whose values range from `lo` to `hi`. -/
def qscale (lo hi : EReal) : EReal :=
  if 0 < hi - lo then Ideal.div (hi - lo) (Ideal.ofBits FTy.f32 1097859072#32) else 1

/-- The code of `v` in such a group, as an extended real. -/
def qcode (v lo hi : EReal) : EReal :=
  min (Ideal.ofBits FTy.f32 1097859072#32)
    (max 0 (Ideal.liftRound Ideal.roundHalfEven (Ideal.div (v - lo) (qscale lo hi))))

theorem fifteen : Ideal.ofBits FTy.f32 1097859072#32 = ((15 : ℝ) : EReal) := by
  simp [Ideal.ofBits, Ideal.ieee]; rw [← EReal.coe_mul]; norm_num

/-- A rounded value clipped to `0 … 15` is a whole number in that range. -/
theorem clip_nat (x : EReal) : ∃ n : ℕ, n ≤ 15 ∧
    min (Ideal.ofBits FTy.f32 1097859072#32) (max 0 (Ideal.liftRound Ideal.roundHalfEven x))
      = ((n : ℝ) : EReal) := by
  rw [fifteen]
  induction x with
  | bot => exact ⟨0, by omega, by simp⟩
  | top => exact ⟨15, by omega, by simp⟩
  | coe r =>
    refine ⟨(min 15 (max 0 (Ideal.roundHalfEven r))).toNat, by omega, ?_⟩
    rw [Ideal.liftRound_coe]
    have h : (((min 15 (max 0 (Ideal.roundHalfEven r))).toNat : ℕ) : ℝ)
        = ((min 15 (max 0 (Ideal.roundHalfEven r)) : ℤ) : ℝ) := by
      have : (((min 15 (max 0 (Ideal.roundHalfEven r))).toNat : ℕ) : ℤ)
          = min 15 (max 0 (Ideal.roundHalfEven r)) := Int.toNat_of_nonneg (by omega)
      exact_mod_cast congrArg (Int.cast : ℤ → ℝ) this
    rw [h, Int.cast_min, Int.cast_max, EReal.coe_strictMono.monotone.map_min, EReal.coe_strictMono.monotone.map_max]
    norm_num

/-- The code of `v`, as a number. -/
def qnat (v lo hi : EReal) : ℕ :=
  Classical.choose (clip_nat (Ideal.div (v - lo) (qscale lo hi)))

theorem qnat_le (v lo hi : EReal) : qnat v lo hi ≤ 15 :=
  (Classical.choose_spec (clip_nat (Ideal.div (v - lo) (qscale lo hi)))).1

theorem qcode_eq (v lo hi : EReal) : qcode v lo hi = ((qnat v lo hi : ℝ) : EReal) :=
  (Classical.choose_spec (clip_nat (Ideal.div (v - lo) (qscale lo hi)))).2

/-- A small whole number is read back as itself. -/
theorem fptosi_nat (φ : FTy) (n : ℕ) (h : n ≤ 255) :
    FloatOps.fptosi (F := Ideal) (φ := φ) 32 (((n : ℝ) : EReal)) = BitVec.ofNat 32 n := by
  show Ideal.fptosi 32 _ = _
  have e : Ideal.toIntClamped (-(2 ^ (32 - 1) : Nat)) ((2 ^ (32 - 1) : Nat) - 1) ((n : ℝ) : EReal) = (n : ℤ) := by
    show max _ (min _ (if 0 ≤ (n : ℝ) then ⌊(n : ℝ)⌋ else ⌈(n : ℝ)⌉)) = _
    rw [if_pos (Nat.cast_nonneg n), Int.floor_natCast]
    norm_num
    omega
  rw [Ideal.fptosi, e, BitVec.ofInt_natCast]

/-- Two codes packed into one byte. -/
def pack (n m : ℕ) : BitVec 8 := BitVec.ofNat 8 (n + 16 * m)

theorem pack_lo (n m : ℕ) (hn : n ≤ 15) (hm : m ≤ 15) : (pack n m).toNat % 16 = n := by
  simp only [pack, BitVec.toNat_ofNat]; omega

theorem pack_hi (n m : ℕ) (hn : n ≤ 15) (hm : m ≤ 15) : (pack n m).toNat / 16 = m := by
  simp only [pack, BitVec.toNat_ofNat]; omega

/-- Packing by shift and or is packing by arithmetic. -/
theorem shift_or (n m : ℕ) (hn : n ≤ 15) (hm : m ≤ 15) :
    BitVec.setWidth 8 (BitVec.ofNat 32 n ||| (BitVec.ofNat 32 m <<< 4)) = pack n m := by
  interval_cases n <;> interval_cases m <;> rfl

theorem trunc_pack (n m : ℕ) (hn : n ≤ 15) (hm : m ≤ 15) :
    BitVec.setWidth 8 (BitVec.ofNat 32 (n + 16 * m)) = pack n m := by
  interval_cases n <;> interval_cases m <;> rfl

/-! ## Smallest and largest of a group -/

/-- The last 31 of 32 values and one more: the smallest. -/
theorem fold_min_tail (w : Fin 32 → EReal) (x : EReal) :
    min (Finset.univ.fold min ⊤ fun t : Fin 32 => if 0 < t.val then w t else ⊤) x
      = Finset.univ.fold min ⊤ fun t : Fin 32 =>
          if h : t.val < 31 then w ⟨t.val + 1, by omega⟩ else x := by
  refine eq_of_forall_le_iff fun c => ?_
  rw [le_min_iff, Finset.le_fold_min, Finset.le_fold_min]
  constructor
  · rintro ⟨⟨-, h⟩, hx⟩
    refine ⟨le_top, fun t _ => ?_⟩
    split
    · next h' => simpa using h ⟨t.val + 1, by omega⟩ (Finset.mem_univ _)
    · exact hx
  · rintro ⟨-, h⟩
    refine ⟨⟨le_top, fun t _ => ?_⟩, by simpa using h ⟨31, by omega⟩ (Finset.mem_univ _)⟩
    split
    · next h' =>
      have := h ⟨t.val - 1, by omega⟩ (Finset.mem_univ _)
      rw [dif_pos (by show t.val - 1 < 31; omega)] at this
      convert this using 2
      exact Fin.ext (by show t.val = t.val - 1 + 1; omega)
    · exact le_top

/-- The last 31 of 32 values and one more: the largest. -/
theorem fold_max_tail (w : Fin 32 → EReal) (x : EReal) :
    max (Finset.univ.fold max ⊥ fun t : Fin 32 => if 0 < t.val then w t else ⊥) x
      = Finset.univ.fold max ⊥ fun t : Fin 32 =>
          if h : t.val < 31 then w ⟨t.val + 1, by omega⟩ else x := by
  refine eq_of_forall_ge_iff fun c => ?_
  rw [max_le_iff, Finset.fold_max_le, Finset.fold_max_le]
  constructor
  · rintro ⟨⟨-, h⟩, hx⟩
    refine ⟨bot_le, fun t _ => ?_⟩
    split
    · next h' => simpa using h ⟨t.val + 1, by omega⟩ (Finset.mem_univ _)
    · exact hx
  · rintro ⟨-, h⟩
    refine ⟨⟨bot_le, fun t _ => ?_⟩, by simpa using h ⟨31, by omega⟩ (Finset.mem_univ _)⟩
    split
    · next h' =>
      have := h ⟨t.val - 1, by omega⟩ (Finset.mem_univ _)
      rw [dif_pos (by show t.val - 1 < 31; omega)] at this
      convert this using 2
      exact Fin.ext (by show t.val = t.val - 1 + 1; omega)
    · exact bot_le

/-- One group of 32 out of 128 lanes, the others masked: the smallest. -/
theorem fold_min_group (v : Fin 128 → EReal) (g : Fin 4) :
    (Finset.univ.fold min ⊤ fun x : Fin 128 => if x.val / 32 = g.val then v x else ⊤)
      = Finset.univ.fold min ⊤ fun i : Fin 32 => v ⟨32 * g.val + i.val, by omega⟩ := by
  refine eq_of_forall_le_iff fun c => ?_
  rw [Finset.le_fold_min, Finset.le_fold_min]
  constructor
  · rintro ⟨-, h⟩
    refine ⟨le_top, fun i _ => ?_⟩
    have := h ⟨32 * g.val + i.val, by omega⟩ (Finset.mem_univ _)
    rwa [if_pos (by show (32 * g.val + i.val) / 32 = g.val; omega)] at this
  · rintro ⟨-, h⟩
    refine ⟨le_top, fun x _ => ?_⟩
    split
    · next h' =>
      have := h ⟨x.val % 32, by omega⟩ (Finset.mem_univ _)
      convert this using 2
      exact Fin.ext (by show x.val = 32 * g.val + x.val % 32; omega)
    · exact le_top

/-- One group of 32 out of 128 lanes, the others masked: the largest. -/
theorem fold_max_group (v : Fin 128 → EReal) (g : Fin 4) :
    (Finset.univ.fold max ⊥ fun x : Fin 128 => if x.val / 32 = g.val then v x else ⊥)
      = Finset.univ.fold max ⊥ fun i : Fin 32 => v ⟨32 * g.val + i.val, by omega⟩ := by
  refine eq_of_forall_ge_iff fun c => ?_
  rw [Finset.fold_max_le, Finset.fold_max_le]
  constructor
  · rintro ⟨-, h⟩
    refine ⟨bot_le, fun i _ => ?_⟩
    have := h ⟨32 * g.val + i.val, by omega⟩ (Finset.mem_univ _)
    rwa [if_pos (by show (32 * g.val + i.val) / 32 = g.val; omega)] at this
  · rintro ⟨-, h⟩
    refine ⟨bot_le, fun x _ => ?_⟩
    split
    · next h' =>
      have := h ⟨x.val % 32, by omega⟩ (Finset.mem_univ _)
      convert this using 2
      exact Fin.ext (by show x.val = 32 * g.val + x.val % 32; omega)
    · exact bot_le

/-- Packing by a product with the matrix that has a 1 at row `2 j` and a 16 at row `2 j + 1`. -/
theorem sum_pack (c : Fin 128 → EReal) (j : Fin 64) :
    (∑ x : Fin 128, c x * (if x.val = 2 * j.val then 1
        else if x.val = 2 * j.val + 1 then ((16 : ℝ) : EReal) else 0))
      = c ⟨2 * j.val, by omega⟩ + c ⟨2 * j.val + 1, by omega⟩ * ((16 : ℝ) : EReal) := by
  rw [← Finset.add_sum_erase _ _ (Finset.mem_univ (⟨2 * j.val, by omega⟩ : Fin 128)),
    ← Finset.add_sum_erase _ _ (Finset.mem_erase.2
      ⟨show (⟨2 * j.val + 1, by omega⟩ : Fin 128) ≠ ⟨2 * j.val, by omega⟩ by
        intro h; have := congrArg Fin.val h; simp at this, Finset.mem_univ _⟩),
    Finset.sum_eq_zero, if_pos rfl, if_neg (by simp), if_pos rfl, mul_one, add_zero]
  intro x hx
  simp only [Finset.mem_erase, Finset.mem_univ, and_true, ne_eq, Fin.ext_iff] at hx
  rw [if_neg hx.2, if_neg hx.1, mul_zero]

end Cert.Quant
-- ==== Proof.QuantNew.lean ====
/- The quantiser's stored values, read at an index.

Each of 128 rows is one new token of one head. A key is quantised together with the last 31 tokens of its window, every
dimension on its own; a value is quantised in four groups of 32 dimensions. `kLo`, `kHi`, `vLo`, `vHi` are a group's
smallest and largest values; every value the quantiser computes is `qscale` or `qcode` of them. -/
module

public import proofs.«01_k».proof.Proof.QuantMath
public import Idealize.ShloMosaic.Lib.Pointwise

@[expose] public section

set_option maxRecDepth 16384

noncomputable section

open Idealize.ShloMosaic

namespace Cert.KernelIdeal.Quant

open Cert.KernelIdeal Cert.KernelIdeal.Gen Cert.Quant

section
variable (x0 : Vec Ideal S128x128 .bf16) (x2 : Vec Ideal S128x32x128 .bf16) (n d : Fin 128)

/-- The smallest of a key and the last 31 of its window. -/
def kLo : EReal := Finset.univ.fold min ⊤ fun t : Fin 32 =>
  if h : t.val < 31 then x2 (ix3 n ⟨t.val + 1, by omega⟩ d) else x0 (ix2 n d)

/-- The largest of a key and the last 31 of its window. -/
def kHi : EReal := Finset.univ.fold max ⊥ fun t : Fin 32 =>
  if h : t.val < 31 then x2 (ix3 n ⟨t.val + 1, by omega⟩ d) else x0 (ix2 n d)

theorem pinf : Ideal.ofBits FTy.f32 2139095040#32 = ⊤ := by simp [Ideal.ofBits, Ideal.ieee]
theorem ninf : Ideal.ofBits FTy.f32 4286578688#32 = ⊥ := by simp [Ideal.ofBits, Ideal.ieee]

theorem pay1_at : k0_pay1 x0 (ix2 n d) = x0 (ix2 n d) := by pointwise [k0_pay1]
theorem pay2_at (t : Fin 32) : k0_pay2 x2 (ix3 n t d) = x2 (ix3 n t d) := by pointwise [k0_pay2]

theorem sgt_word : ∀ t : Fin 32, IntOp.cmpi CmpIPredicate.sgt (BitVec.ofNat 32 t.val) 0#32
    = if 0 < t.val then 1#1 else 0#1 := by decide +kernel

theorem sel_sgt (t : Fin 32) (a b : EReal) :
    Scalar.select (IntOp.cmpi CmpIPredicate.sgt (BitVec.ofNat 32 t.val) 0#32) a b
      = if 0 < t.val then a else b := by
  rw [sgt_word]; by_cases h : 0 < t.val <;> simp [h, Scalar.select]

theorem pay3_at : k0_pay3 x0 x2 (ix2 n d) = kLo x0 x2 n d := by
  rw [kLo, ← fold_min_tail (fun t => x2 (ix3 n t d))]
  pointwise [k0_pay3]
  simp only [pay1_at, pay2_at, pinf, sel_sgt]

theorem pay4_at : k0_pay4 x0 x2 (ix2 n d) = qscale (kLo x0 x2 n d) (kHi x0 x2 n d) := by
  rw [qscale, ← pay3_at, kHi, ← fold_max_tail (fun t => x2 (ix3 n t d))]
  pointwise [k0_pay4]
  simp only [pay1_at, pay2_at, ninf, sel_sgt]

theorem pay5_at : k0_pay5 x0 x2 (ix2 n d) = qcode (x0 (ix2 n d)) (kLo x0 x2 n d) (kHi x0 x2 n d) := by
  rw [qcode, ← pay4_at, ← pay3_at]
  pointwise [k0_pay5]
  simp only [pay1_at]

end

section
variable (x1 : Vec Ideal S128x128 .bf16) (n d : Fin 128) (g : Fin 4)

/-- The smallest value of group `g`. -/
def vLo : EReal := Finset.univ.fold min ⊤ fun i : Fin 32 => x1 (ix2 n ⟨32 * g.val + i.val, by omega⟩)

/-- The largest value of group `g`. -/
def vHi : EReal := Finset.univ.fold max ⊥ fun i : Fin 32 => x1 (ix2 n ⟨32 * g.val + i.val, by omega⟩)

theorem eq_word : ∀ i k : Fin 4, IntOp.cmpi CmpIPredicate.eq (BitVec.ofNat 32 i.val) (BitVec.ofNat 32 k.val)
    = if i.val = k.val then 1#1 else 0#1 := by decide +kernel

theorem sel_eq (i k : Fin 4) (a b : EReal) :
    Scalar.select (IntOp.cmpi CmpIPredicate.eq (BitVec.ofNat 32 i.val) (BitVec.ofNat 32 k.val)) a b
      = if i.val = k.val then a else b := by
  rw [eq_word]; by_cases h : i.val = k.val <;> simp [h, Scalar.select]

/-- The group of lane `x`. -/
abbrev grp (x : Fin 128) : Fin 4 := ⟨x.val / 32, by omega⟩

theorem sel_g0 (x : Fin 128) (a b : EReal) : Scalar.select
    (IntOp.cmpi CmpIPredicate.eq (BitVec.ofNat 32 (x.val / 32)) 0#32) a b = if x.val / 32 = 0 then a else b :=
  sel_eq (grp x) 0 a b
theorem sel_c0 (i : Fin 4) (a b : EReal) : Scalar.select
    (IntOp.cmpi CmpIPredicate.eq (BitVec.ofNat 32 i.val) 0#32) a b = if i.val = 0 then a else b := sel_eq i 0 a b
theorem sel_g1 (x : Fin 128) (a b : EReal) : Scalar.select
    (IntOp.cmpi CmpIPredicate.eq (BitVec.ofNat 32 (x.val / 32)) 1#32) a b = if x.val / 32 = 1 then a else b :=
  sel_eq (grp x) 1 a b
theorem sel_c1 (i : Fin 4) (a b : EReal) : Scalar.select
    (IntOp.cmpi CmpIPredicate.eq (BitVec.ofNat 32 i.val) 1#32) a b = if i.val = 1 then a else b := sel_eq i 1 a b
theorem sel_g2 (x : Fin 128) (a b : EReal) : Scalar.select
    (IntOp.cmpi CmpIPredicate.eq (BitVec.ofNat 32 (x.val / 32)) 2#32) a b = if x.val / 32 = 2 then a else b :=
  sel_eq (grp x) 2 a b
theorem sel_c2 (i : Fin 4) (a b : EReal) : Scalar.select
    (IntOp.cmpi CmpIPredicate.eq (BitVec.ofNat 32 i.val) 2#32) a b = if i.val = 2 then a else b := sel_eq i 2 a b
theorem sel_g3 (x : Fin 128) (a b : EReal) : Scalar.select
    (IntOp.cmpi CmpIPredicate.eq (BitVec.ofNat 32 (x.val / 32)) 3#32) a b = if x.val / 32 = 3 then a else b :=
  sel_eq (grp x) 3 a b
theorem sel_c3 (i : Fin 4) (a b : EReal) : Scalar.select
    (IntOp.cmpi CmpIPredicate.eq (BitVec.ofNat 32 i.val) 3#32) a b = if i.val = 3 then a else b := sel_eq i 3 a b

/-- A chain of four selections picks the group's own entry. -/
theorem chain4 (f : Fin 4 → EReal) (z : EReal) (i : ℕ) (hi : i < 4) :
    (if i = 3 then f 3 else if i = 2 then f 2 else if i = 1 then f 1 else if i = 0 then f 0 else z) = f ⟨i, hi⟩ := by
  interval_cases i <;> simp

theorem pay8_at : k0_pay8 x1 (ix2 n d) = x1 (ix2 n d) := by pointwise [k0_pay8]

theorem pay9_at : k0_pay9 (ix2 n d) = BitVec.ofNat 32 (d.val / 32) := by
  pointwise [k0_pay9]
  revert d; decide +kernel

theorem pay15_at : k0_pay15 (k0_pay14 x1) (ix2 n 0) = vLo x1 n 0 := by
  rw [vLo, ← fold_min_group (fun x => x1 (ix2 n x)) 0]
  pointwise [k0_pay15, k0_pay14]
  simp only [pay8_at, pay9_at, pinf, sel_g0]

theorem pay16_at : k0_pay16 (k0_pay8 x1) k0_pay9 (ix2 n 0) = vHi x1 n 0 := by
  rw [vHi, ← fold_max_group (fun x => x1 (ix2 n x)) 0]
  pointwise [k0_pay16]
  simp only [pay8_at, pay9_at, ninf, sel_g0]

theorem pay20_at : k0_pay20 (k0_pay8 x1) k0_pay9 (ix2 n 0) = vLo x1 n 1 := by
  rw [vLo, ← fold_min_group (fun x => x1 (ix2 n x)) 1]
  pointwise [k0_pay20]
  simp only [pay8_at, pay9_at, pinf, sel_g1]

theorem pay21_at : k0_pay21 (k0_pay8 x1) k0_pay9 (ix2 n 0) = vHi x1 n 1 := by
  rw [vHi, ← fold_max_group (fun x => x1 (ix2 n x)) 1]
  pointwise [k0_pay21]
  simp only [pay8_at, pay9_at, ninf, sel_g1]

theorem pay23_at : k0_pay23 (k0_pay8 x1) k0_pay9 (ix2 n 0) = vLo x1 n 2 := by
  rw [vLo, ← fold_min_group (fun x => x1 (ix2 n x)) 2]
  pointwise [k0_pay23]
  simp only [pay8_at, pay9_at, pinf, sel_g2]

theorem pay24_at : k0_pay24 (k0_pay8 x1) k0_pay9 (ix2 n 0) = vHi x1 n 2 := by
  rw [vHi, ← fold_max_group (fun x => x1 (ix2 n x)) 2]
  pointwise [k0_pay24]
  simp only [pay8_at, pay9_at, ninf, sel_g2]

theorem pay29_at : k0_pay29 (k0_pay8 x1) k0_pay9 3#32 (ix2 n 0) = vLo x1 n 3 := by
  rw [vLo, ← fold_min_group (fun x => x1 (ix2 n x)) 3]
  pointwise [k0_pay29]
  simp only [pay8_at, pay9_at, pinf, sel_g3]

theorem pay30_at : k0_pay30 (k0_pay8 x1) k0_pay9 (ix2 n 0) = vHi x1 n 3 := by
  rw [vHi, ← fold_max_group (fun x => x1 (ix2 n x)) 3]
  pointwise [k0_pay30]
  simp only [pay8_at, pay9_at, ninf, sel_g3]

end

end Cert.KernelIdeal.Quant
end
-- ==== Proof.QuantOut.lean ====
/- The quantiser's results, read at an index: codes packed two to a word, scales, zeros, and the dequantised token. -/
module

public import proofs.«01_k».proof.Proof.QuantNew
public import proofs.«01_k».proof.Proof.Gen.KernelIdeal.Frame

@[expose] public section

set_option maxRecDepth 16384

noncomputable section

open Idealize.ShloMosaic

namespace Cert.KernelIdeal.Quant

open Cert.KernelIdeal Cert.KernelIdeal.Gen Cert.Quant

variable (x0 x1 : Vec Ideal S128x128 .bf16) (x2 : Vec Ideal S128x32x128 .bf16) (n d : Fin 128) (g : Fin 4) (j : Fin 64)

theorem pay42_eq : k0_pay42 x0 x1 x2 = k0_pay5 x0 x2 := by
  unfold k0_pay42; simp (disch := decide) only [View.ld_unit_lit']
theorem pay44_eq : k0_pay44 x0 x1 x2 = k0_pay8 x1 := by
  unfold k0_pay44; simp (disch := decide) only [View.ld_unit_lit']
theorem pay45_eq : k0_pay45 x0 x1 x2 = k0_pay9 := rfl
theorem pay46_eq : k0_pay46 x0 x1 x2 = k0_pay14 x1 := by
  unfold k0_pay46; simp (disch := decide) only [View.ld_unit_lit']
theorem pay47_eq : k0_pay47 x0 x1 x2 = k0_pay21 (k0_pay8 x1) k0_pay9 := by
  unfold k0_pay47; rw [pay44_eq, pay45_eq]

theorem pay48_at : k0_pay48 x0 x1 x2 (ix2 n d) = if d.val / 32 = 2 then vLo x1 n 2
    else if d.val / 32 = 1 then vLo x1 n 1 else if d.val / 32 = 0 then vLo x1 n 0 else k0_pay10 (F := Ideal) (ix2 n d) := by
  unfold k0_pay48
  simp only [pay46_eq, pay45_eq, pay44_eq]
  pointwise [k0_pay25, k0_pay22]
  simp only [pay9_at, pay15_at, pay20_at, pay23_at, sel_g0, sel_g1, sel_g2]

/-- A value's smallest of its group. -/
theorem vlo_at : k0_pay31 (k0_pay44 x0 x1 x2) (k0_pay45 x0 x1 x2) (k0_pay48 x0 x1 x2) 3#32 (ix2 n d) = vLo x1 n (grp d) := by
  simp only [pay45_eq, pay44_eq]
  pointwise [k0_pay31]
  simp only [pay9_at, pay29_at, pay48_at, sel_g3]
  exact chain4 (vLo x1 n) _ (d.val / 32) (by omega)

theorem pay49_at : k0_pay49 x0 x1 x2 (ix2 n d) = if d.val / 32 = 2 then vHi x1 n 2
    else if d.val / 32 = 1 then vHi x1 n 1 else if d.val / 32 = 0 then vHi x1 n 0 else k0_pay11 (F := Ideal) (ix2 n d) := by
  unfold k0_pay49
  simp only [pay47_eq, pay45_eq, pay44_eq]
  pointwise [k0_pay26, k0_pay17]
  simp only [pay9_at, pay16_at, pay21_at, pay24_at, sel_g0, sel_g1, sel_g2]

/-- A value's scale. -/
theorem vscale_at : k0_pay34 (k0_pay44 x0 x1 x2) (k0_pay45 x0 x1 x2) (k0_pay48 x0 x1 x2) (k0_pay49 x0 x1 x2) 3#32 (ix2 n d)
    = qscale (vLo x1 n (grp d)) (vHi x1 n (grp d)) := by
  rw [qscale, ← vlo_at x0 x1 x2]
  pointwise [k0_pay34]
  simp only [vlo_at]
  simp only [pay45_eq, pay44_eq]
  simp only [pay9_at, pay30_at, pay49_at, sel_g3]
  rw [chain4 (vHi x1 n) _ (d.val / 32) (by omega)]

/-- A value's code. -/
theorem vcode_at : k0_pay51 x0 x1 x2 (ix2 n d) = qcode (x1 (ix2 n d)) (vLo x1 n (grp d)) (vHi x1 n (grp d)) := by
  rw [qcode, ← vscale_at x0 x1 x2, ← vlo_at x0 x1 x2]
  unfold k0_pay51
  pointwise [k0_pay35]
  simp only [pay45_eq, pay44_eq]
  simp only [pay8_at]

/-- The zeros of a row of values. -/
theorem vz_at : k0_pay50 x0 x1 x2 (ix2 n g) = vLo x1 n g := by
  unfold k0_pay50 k0_pay43
  simp only [pay46_eq, pay45_eq, pay44_eq]
  pointwise [k0_pay32, k0_pay27, k0_pay18]
  simp only [pay29_at, pay15_at, pay20_at, pay23_at, sel_c0, sel_c1, sel_c2, sel_c3]
  exact chain4 (vLo x1 n) _ g.val (by omega)

/-- The scales of a row of values. -/
theorem vs_at : k0_pay36 (k0_pay50 x0 x1 x2) (k0_pay33 (k0_pay44 x0 x1 x2) (k0_pay45 x0 x1 x2) (k0_pay43 x0 x1 x2)
      (k0_pay28 (k0_pay44 x0 x1 x2) (k0_pay45 x0 x1 x2) (k0_pay43 x0 x1 x2)
        (k0_pay19 (k0_pay44 x0 x1 x2) (k0_pay45 x0 x1 x2) (k0_pay43 x0 x1 x2) (k0_pay13)) (k0_pay47 x0 x1 x2))) (ix2 n g)
    = qscale (vLo x1 n g) (vHi x1 n g) := by
  unfold k0_pay43
  simp only [pay47_eq, pay45_eq, pay44_eq]
  pointwise [k0_pay36, k0_pay33, k0_pay28, k0_pay19]
  simp only [pay30_at, pay16_at, pay21_at, pay24_at, vz_at, sel_c0, sel_c1, sel_c2, sel_c3]
  rw [chain4 (vHi x1 n) _ g.val (by omega), qscale]

theorem even_word : ∀ (d : Fin 128) (j : Fin 64), IntOp.cmpi CmpIPredicate.eq (BitVec.ofNat 32 d.val) (IntOp.muli 2#32 (BitVec.ofNat 32 j.val))
    = if d.val = 2 * j.val then 1#1 else 0#1 := by decide +kernel
theorem odd_word : ∀ (d : Fin 128) (j : Fin 64), IntOp.cmpi CmpIPredicate.eq (BitVec.ofNat 32 d.val)
      (IntOp.addi (IntOp.muli 2#32 (BitVec.ofNat 32 j.val)) 1#32)
    = if d.val = 2 * j.val + 1 then 1#1 else 0#1 := by decide +kernel

theorem sixteen : Ideal.ofBits FTy.f32 1098907648#32 = ((16 : ℝ) : EReal) := by
  simp [Ideal.ofBits, Ideal.ieee]; rw [← EReal.coe_mul]; norm_num

/-- The packing matrix: 1 at row `2 j`, 16 at row `2 j + 1`. -/
theorem pay39_at : k0_pay39 (F := Ideal) (ix2 d j)
    = if d.val = 2 * j.val then 1 else if d.val = 2 * j.val + 1 then ((16 : ℝ) : EReal) else 0 := by
  pointwise [k0_pay39]
  rw [even_word, odd_word, sixteen]
  by_cases h : d.val = 2 * j.val <;> by_cases h' : d.val = 2 * j.val + 1 <;> simp [h, h', Scalar.select]

/-- A row of codes packed by that matrix. -/
theorem pay40_at (q : FVec Ideal S128x128 .bf16) (c : Fin 128 → ℕ) (hq : ∀ x, q (ix2 n x) = ((c x : ℝ) : EReal)) (hc : ∀ x, c x ≤ 15) :
    k0_pay40 q (ix2 n j) = BitVec.ofNat 32 (c ⟨2 * j.val, by omega⟩ + 16 * c ⟨2 * j.val + 1, by omega⟩) := by
  pointwise [k0_pay40]
  simp only [pay39_at, hq]
  rw [sum_pack (fun x => ((c x : ℝ) : EReal)), ← EReal.coe_mul, ← EReal.coe_add]
  have := hc ⟨2 * j.val, by omega⟩
  have := hc ⟨2 * j.val + 1, by omega⟩
  rw [← fptosi_nat .f32 _ (by omega)]
  congr 1
  rw [EReal.coe_eq_coe_iff]
  push_cast
  ring

theorem pay41_eq (q : FVec Ideal S128x128 .f32) : k0_pay41 q = k0_pay40 (k0_pay37 q) := rfl

/-- A dequantised key. -/
theorem kd_at : k0_pay7 (k0_pay3 x0 x2) (k0_pay42 x0 x1 x2) (k0_pay6 x0 x2) (ix2 n d)
    = qcode (x0 (ix2 n d)) (kLo x0 x2 n d) (kHi x0 x2 n d) * qscale (kLo x0 x2 n d) (kHi x0 x2 n d) + kLo x0 x2 n d := by
  simp only [pay42_eq]
  pointwise [k0_pay7, k0_pay6]
  rw [pay3_at, pay4_at, pay5_at]

/-- A dequantised value. -/
theorem vd_at : k0_pay38 (k0_pay31 (k0_pay44 x0 x1 x2) (k0_pay45 x0 x1 x2) (k0_pay48 x0 x1 x2) 3#32)
      (k0_pay34 (k0_pay44 x0 x1 x2) (k0_pay45 x0 x1 x2) (k0_pay48 x0 x1 x2) (k0_pay49 x0 x1 x2) 3#32) (k0_pay51 x0 x1 x2) (ix2 n d)
    = qcode (x1 (ix2 n d)) (vLo x1 n (grp d)) (vHi x1 n (grp d)) * qscale (vLo x1 n (grp d)) (vHi x1 n (grp d)) + vLo x1 n (grp d) := by
  pointwise [k0_pay38, k0_pay37]
  rw [vlo_at, vscale_at, vcode_at]

end Cert.KernelIdeal.Quant
end
-- ==== Proof.QuantStore.lean ====
/- What the quantiser stores, read at an index. -/
module

public import proofs.«01_k».proof.Proof.QuantOut

@[expose] public section

set_option maxRecDepth 16384

noncomputable section

open Idealize.ShloMosaic

namespace Cert.KernelIdeal.Quant

open Cert.KernelIdeal Cert.KernelIdeal.Gen Cert.Quant

variable (x0 x1 : Vec Ideal S128x128 .bf16) (x2 : Vec Ideal S128x32x128 .bf16) (n d : Fin 128) (g : Fin 4) (j : Fin 64)

/-- The number a key's code is. -/
def kNat : ℕ := qnat (x0 (ix2 n d)) (kLo x0 x2 n d) (kHi x0 x2 n d)

/-- The number a value's code is. -/
def vNat : ℕ := qnat (x1 (ix2 n d)) (vLo x1 n (grp d)) (vHi x1 n (grp d))

theorem out3_at : out0_3 x0 x1 x2 (ix2 n j)
    = BitVec.ofNat 32 (kNat x0 x2 n ⟨2 * j.val, by omega⟩ + 16 * kNat x0 x2 n ⟨2 * j.val + 1, by omega⟩) := by
  frame_out
  rw [pay42_eq]
  exact pay40_at n j _ (kNat x0 x2 n) (fun x => by rw [pay5_at, qcode_eq]; rfl) (fun x => qnat_le _ _ _)

theorem out4_at : out0_4 x0 x1 x2 (ix2 n d) = qscale (kLo x0 x2 n d) (kHi x0 x2 n d) := by
  frame_out
  exact pay4_at x0 x2 n d

theorem out5_at : out0_5 x0 x1 x2 (ix2 n d) = kLo x0 x2 n d := by
  frame_out
  exact pay3_at x0 x2 n d

theorem out6_at : out0_6 x0 x1 x2 (ix2 n j)
    = BitVec.ofNat 32 (vNat x1 n ⟨2 * j.val, by omega⟩ + 16 * vNat x1 n ⟨2 * j.val + 1, by omega⟩) := by
  frame_out
  rw [pay41_eq]
  refine pay40_at n j _ (vNat x1 n) (fun x => ?_) (fun x => qnat_le _ _ _)
  pointwise [k0_pay37]
  rw [vcode_at, qcode_eq]; rfl

theorem out7_at : out0_7 x0 x1 x2 (ix2 n g) = qscale (vLo x1 n g) (vHi x1 n g) := by
  frame_out
  exact vs_at x0 x1 x2 n g

theorem out8_at : out0_8 x0 x1 x2 (ix2 n g) = vLo x1 n g := by
  frame_out
  exact vz_at x0 x1 x2 n g

theorem out9_at : out0_9 x0 x1 x2 (ix2 n d)
    = ((kNat x0 x2 n d : ℝ) : EReal) * qscale (kLo x0 x2 n d) (kHi x0 x2 n d) + kLo x0 x2 n d := by
  frame_out
  rw [kd_at, qcode_eq]; rfl

theorem out10_at : out0_10 x0 x1 x2 (ix2 n d)
    = ((vNat x1 n d : ℝ) : EReal) * qscale (vLo x1 n (grp d)) (vHi x1 n (grp d)) + vLo x1 n (grp d) := by
  frame_out
  rw [vd_at, qcode_eq]; rfl

end Cert.KernelIdeal.Quant
end
-- ==== Proof.Run.lean ====
/- The kernel program's run, its seven results named.

Every weakly fair execution of the kernel program ends, and each result array then holds what the last host
stretch computed (`W5`): the launch argument of the generated frame, with the results kept in the conclusion. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run ends with every result array at the last stretch's contents `W5` and every argument array as launched. -/
theorem run_results : θ_run defs (onTc (τ := τ) (main (F := F))) ⟨m, fun _ => 0, ρ⟩ (fun r => ∀ c : Dev nD,
      r.2.mem ((c.tc : Thread nD τ).loc main_v16) = W5 m ρ c (Proc.devRef .tc main_v16)
      ∧ r.2.mem ((c.tc : Thread nD τ).loc main_v18) = W5 m ρ c (Proc.devRef .tc main_v18)
      ∧ r.2.mem ((c.tc : Thread nD τ).loc main_v19) = W5 m ρ c (Proc.devRef .tc main_v19)
      ∧ r.2.mem ((c.tc : Thread nD τ).loc main_v20) = W5 m ρ c (Proc.devRef .tc main_v20)
      ∧ r.2.mem ((c.tc : Thread nD τ).loc main_v22) = W5 m ρ c (Proc.devRef .tc main_v22)
      ∧ r.2.mem ((c.tc : Thread nD τ).loc main_v23) = W5 m ρ c (Proc.devRef .tc main_v23)
      ∧ r.2.mem ((c.tc : Thread nD τ).loc main_v24) = W5 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v16 (by decide)),
       h c _ (mem_uc main_v18 (by decide)),
       h c _ (mem_uc main_v19 (by decide)),
       h c _ (mem_uc main_v20 (by decide)),
       h c _ (mem_uc main_v22 (by decide)),
       h c _ (mem_uc main_v23 (by decide)),
       h c _ (mem_uc main_v24 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.KernelIdeal.Gen

end
-- ==== Proof.QuantArr.lean ====
/- The quantiser's arrays after the run.

The quantiser's grid is one point, whose blocks are whole arrays: the new keys and values, one row for each batch row and
head, and the last 32 tokens of the key window. -/
module

public import proofs.«01_k».proof.Proof.QuantOut
public import proofs.«01_k».proof.Proof.Run

@[expose] public section

set_option maxRecDepth 16384

noncomputable section

open Idealize.ShloMosaic Idealize.SL

namespace Cert.KernelIdeal.Quant

open Cert.KernelIdeal Cert.KernelIdeal.Gen Cert.Quant

variable (V : (c : Dev nD) → (b : Ref sig .tc) → Buf (Elt Ideal) ((c.tc : Thread nD τ).loc b)) (c : Dev nD)

/-- The one point of the grid, and its block indices. -/
theorem idx0 : ∀ t : Fin cfg0.N, win0_0.index t = ![0, 0] ∧ win0_1.index t = ![0, 0] ∧ win0_2.index t = ![0, 3, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] :=
  (by decide +kernel : ∀ t : Fin grid0.N, _)

/-- The last 32 tokens of the key window. -/
def wins : Vec Ideal S128x32x128 .bf16 := fun (y : S128x32x128.Idx) =>
  V c main_v2 (ix3 (y 0) ⟨96 + (y 1).val, by have h : (y 1).val < 32 := (y 1).isLt; omega⟩ (y 2))

theorem blk0_0 (t : Fin cfg0.N) : (iblk0 V c 0 t : Vec Ideal S128x128 .bf16) = V c main_v0 := by
  funext y
  blk_ext! [iblk0, idx0 t]

theorem blk0_1 (t : Fin cfg0.N) : (iblk0 V c 1 t : Vec Ideal S128x128 .bf16) = V c main_v1 := by
  funext y
  blk_ext! [iblk0, idx0 t]

theorem blk0_2 (t : Fin cfg0.N) : (iblk0 V c 2 t : Vec Ideal S128x32x128 .bf16) = wins V c := by
  funext y
  unfold wins
  blk_ext! [iblk0, idx0 t]

theorem arr0_3 : (dat0 V c).arrAt 3 cfg0.N = out0_3 (V c main_v0) (V c main_v1) (wins V c) := by
  refine (dat0 V c).arrAt_eq_of_covers 3 _ (by decide +kernel) fun t _ y => ?_
  blk_simp
  rw [after0_3, blk0_0, blk0_1, blk0_2]
  have e : (win0_3.blk t).view.emb y = (y : S128x64.Idx) := by
    blk_ext [idx0 t]
  rw [e]

theorem arr0_4 : (dat0 V c).arrAt 4 cfg0.N = out0_4 (V c main_v0) (V c main_v1) (wins V c) := by
  refine (dat0 V c).arrAt_eq_of_covers 4 _ (by decide +kernel) fun t _ y => ?_
  blk_simp
  rw [after0_4, blk0_0, blk0_1, blk0_2]
  have e : (win0_4.blk t).view.emb y = (y : S128x128.Idx) := by
    blk_ext [idx0 t]
  rw [e]

theorem arr0_5 : (dat0 V c).arrAt 5 cfg0.N = out0_5 (V c main_v0) (V c main_v1) (wins V c) := by
  refine (dat0 V c).arrAt_eq_of_covers 5 _ (by decide +kernel) fun t _ y => ?_
  blk_simp
  rw [after0_5, blk0_0, blk0_1, blk0_2]
  have e : (win0_5.blk t).view.emb y = (y : S128x128.Idx) := by
    blk_ext [idx0 t]
  rw [e]

theorem arr0_6 : (dat0 V c).arrAt 6 cfg0.N = out0_6 (V c main_v0) (V c main_v1) (wins V c) := by
  refine (dat0 V c).arrAt_eq_of_covers 6 _ (by decide +kernel) fun t _ y => ?_
  blk_simp
  rw [after0_6, blk0_0, blk0_1, blk0_2]
  have e : (win0_6.blk t).view.emb y = (y : S128x64.Idx) := by
    blk_ext [idx0 t]
  rw [e]

theorem arr0_7 : (dat0 V c).arrAt 7 cfg0.N = out0_7 (V c main_v0) (V c main_v1) (wins V c) := by
  refine (dat0 V c).arrAt_eq_of_covers 7 _ (by decide +kernel) fun t _ y => ?_
  blk_simp
  rw [after0_7, blk0_0, blk0_1, blk0_2]
  have e : (win0_7.blk t).view.emb y = (y : S128x4.Idx) := by
    blk_ext [idx0 t]
  rw [e]

theorem arr0_8 : (dat0 V c).arrAt 8 cfg0.N = out0_8 (V c main_v0) (V c main_v1) (wins V c) := by
  refine (dat0 V c).arrAt_eq_of_covers 8 _ (by decide +kernel) fun t _ y => ?_
  blk_simp
  rw [after0_8, blk0_0, blk0_1, blk0_2]
  have e : (win0_8.blk t).view.emb y = (y : S128x4.Idx) := by
    blk_ext [idx0 t]
  rw [e]

theorem arr0_9 : (dat0 V c).arrAt 9 cfg0.N = out0_9 (V c main_v0) (V c main_v1) (wins V c) := by
  refine (dat0 V c).arrAt_eq_of_covers 9 _ (by decide +kernel) fun t _ y => ?_
  blk_simp
  rw [after0_9, blk0_0, blk0_1, blk0_2]
  have e : (win0_9.blk t).view.emb y = (y : S128x128.Idx) := by
    blk_ext [idx0 t]
  rw [e]

theorem arr0_10 : (dat0 V c).arrAt 10 cfg0.N = out0_10 (V c main_v0) (V c main_v1) (wins V c) := by
  refine (dat0 V c).arrAt_eq_of_covers 10 _ (by decide +kernel) fun t _ y => ?_
  blk_simp
  rw [after0_10, blk0_0, blk0_1, blk0_2]
  have e : (win0_10.blk t).view.emb y = (y : S128x128.Idx) := by
    blk_ext [idx0 t]
  rw [e]

end Cert.KernelIdeal.Quant

end
-- ==== Proof.TileAt.lean ====
/- The kernel's dequantised tiles, read at an index.

`nib` is a code read out of its byte: the low four bits for an even dimension, the high four for an odd one. `keyC` and
`valC` are the cached key and value of head `h` at dimension `d` and position `t`: the code times its group's scale plus
its group's zero. A tile of keys at chunk `k`, tile `j` reads `keyC` at position `1920 k + 128 j + lane`, whichever
window of the scale table the chunk loaded; a chunk of values reads `valC` at `1920 k + lane`. -/
module

public import proofs.«01_k».proof.Proof.Tile
public import Idealize.ShloMosaic.Lib.Pipeline.ValueKit
public import Idealize.ShloMosaic.Lib.Pointwise

@[expose] public section

set_option maxRecDepth 16384

noncomputable section

open Idealize.ShloMosaic

namespace Cert.KernelIdeal.Attn

open Cert.KernelIdeal Cert.KernelIdeal.Gen

/-- The code a packed byte holds for dimension `d`. -/
def nib (c : BitVec 8) (d : ℕ) : EReal := (((if d % 2 = 0 then c.toNat % 16 else c.toNat / 16 : ℕ) : ℝ) : EReal)

theorem andi_toInt : ∀ c : BitVec 8, (IntOp.andi (BitVec.setWidth 32 c) 15#32).toInt = (c.toNat % 16 : ℕ) := by decide +kernel
theorem shrsi_toInt : ∀ c : BitVec 8, (IntOp.shrsi .vector (BitVec.setWidth 32 c) 4#32).toInt = (c.toNat / 16 : ℕ) := by decide +kernel

/-- The unpacked low code as a number. -/
theorem nib_lo (φ : FTy) (c : BitVec 8) (d : ℕ) (h : d % 2 < 1) :
    FloatOps.sitofp (F := Ideal) φ (IntOp.andi (BitVec.setWidth 32 c) 15#32) = nib c d := by
  unfold nib
  rw [if_pos (by omega)]
  show (((IntOp.andi (BitVec.setWidth 32 c) 15#32).toInt : ℝ) : EReal) = _
  rw [andi_toInt, Int.cast_natCast]

/-- The unpacked high code as a number. -/
theorem nib_hi (φ : FTy) (c : BitVec 8) (d : ℕ) (h : ¬ d % 2 < 1) :
    FloatOps.sitofp (F := Ideal) φ (IntOp.shrsi .vector (BitVec.setWidth 32 c) 4#32) = nib c d := by
  unfold nib
  rw [if_neg (by omega)]
  show (((IntOp.shrsi .vector (BitVec.setWidth 32 c) 4#32).toInt : ℝ) : EReal) = _
  rw [shrsi_toInt, Int.cast_natCast]

/-- The cached key of head `h` at dimension `d`, position `t`, from a batch row's blocks. -/
def keyC (x1 : Vec Ideal S1x2x64x32640 .i8) (x2 x3 : Vec Ideal S1x2040x128 .f32) (h : Fin 2) (d : Fin 128) (t : Fin 32640) : EReal :=
  nib (x1 (ix4 0 h ⟨d.val / 2, by omega⟩ t)) d.val * (x2 (ix3 0 ⟨2 * (t.val / 32) + h.val, by omega⟩ d) : EReal)
    + (x3 (ix3 0 ⟨2 * (t.val / 32) + h.val, by omega⟩ d) : EReal)

/-- The cached value of head `h` at dimension `d`, position `t`, from a batch row's blocks. -/
def valC (x4 : Vec Ideal S1x2x64x32640 .i8) (x5 x6 : Vec Ideal S1x2x4x32640 .f32) (h : Fin 2) (d : Fin 128) (t : Fin 32640) : EReal :=
  nib (x4 (ix4 0 h ⟨d.val / 2, by omega⟩ t)) d.val * (x5 (ix4 0 h ⟨d.val / 32, by omega⟩ t) : EReal)
    + (x6 (ix4 0 h ⟨d.val / 32, by omega⟩ t) : EReal)

theorem codes_at (x : Vec Ideal S1x1x64x128 .i8) (d l : Fin 128) :
    k1_pay5 (F := Ideal) x (ix2 d l) = nib (x (ix4 0 0 ⟨d.val / 2, by omega⟩ l)) d.val := by
  pointwise [k1_pay5]
  split
  · rename_i h; exact nib_lo _ _ _ h
  · rename_i h; exact nib_hi _ _ _ h

theorem lane_word : ∀ l : Fin 128, IntOp.muli
        (Scalar.select
          (IntOp.andi
            (IntOp.cmpi CmpIPredicate.ne
              (IntOp.subi (BitVec.setWidth 32 (IntOp.cmpi CmpIPredicate.sgt (BitVec.ofNat 32 ↑l) 0#32))
                (BitVec.setWidth 32 (IntOp.cmpi CmpIPredicate.slt (BitVec.ofNat 32 ↑l) 0#32)))
              (Scalar.subi (Scalar.extui (Scalar.cmpi CmpIPredicate.sgt 32#32 0#32))
                (Scalar.extui (Scalar.cmpi CmpIPredicate.slt 32#32 0#32))))
            (IntOp.cmpi CmpIPredicate.ne (IntOp.remsi ArithUnit.vector (BitVec.ofNat 32 ↑l) 32#32) 0#32))
          (IntOp.subi (IntOp.divsi ArithUnit.vector (BitVec.ofNat 32 ↑l) 32#32) 1#32)
          (IntOp.divsi ArithUnit.vector (BitVec.ofNat 32 ↑l) 32#32))
        2#32 = BitVec.ofNat 32 (2 * (l.val / 32)) := by decide +kernel

/-- The window's offset within the scale table at chunk `k`: zero but at the last chunk. -/
theorem v163_word : ∀ k : Fin k1_t1_loop.trips, trip_k1_t1.sl.v163 k = BitVec.ofNat 32 (120 * k.val - min (120 * k.val) 1912) := by
  decide +kernel

theorem trips_lt (k : Fin k1_t1_loop.trips) : k.val < 17 := k.isLt

/-- The gather's index, wrapped where negative, is the row of the lane's group within the chunk's window. -/
theorem idxK_at (k : Fin k1_t1_loop.trips) (o : ℕ) (ho : o < 114) (d l : Fin 128) :
    (Scalar.select (IntOp.cmpi CmpIPredicate.slt (idxK (BitVec.ofNat 32 o) (trip_k1_t1.sl.v163 k) (ix2 d l)) 0#32)
      (IntOp.addi (idxK (BitVec.ofNat 32 o) (trip_k1_t1.sl.v163 k) (ix2 d l)) 128#32)
      (idxK (BitVec.ofNat 32 o) (trip_k1_t1.sl.v163 k) (ix2 d l))).toNat
      = 2 * (l.val / 32) + o + (120 * k.val - min (120 * k.val) 1912) := by
  have hk := trips_lt k
  have e : idxK (BitVec.ofNat 32 o) (trip_k1_t1.sl.v163 k) (ix2 d l)
      = BitVec.ofNat 32 (2 * (l.val / 32) + o + (120 * k.val - min (120 * k.val) 1912)) := by
    pointwise [idxK, k1_pay97]
    rw [lane_word, v163_word]
    apply BitVec.eq_of_toNat_eq
    simp only [IntOp.addi, Scalar.addi, BitVec.toNat_add, BitVec.toNat_ofNat]
    omega
  rw [e]
  generalize hx : 2 * (l.val / 32) + o + (120 * k.val - min (120 * k.val) 1912) = n
  have hn : n < 128 := by omega
  clear e hx
  revert n
  decide +kernel

section Reads
variable (arg1 : Memref sig .tc .vmem S1x16x128 .bf16) (harg1 : arg1.IsWhole) (arg2 : Memref sig .tc .vmem S1x2x64x32640 .i8) (harg2 : arg2.IsWhole)
  (arg3 : Memref sig .tc .vmem S1x2040x128 .f32) (harg3 : arg3.IsWhole)
  (x0 : Vec Ideal S1x16x128 .bf16) (x1 : Vec Ideal S1x2x64x32640 .i8) (x2 : Vec Ideal S1x2040x128 .f32) (k : Fin k1_t1_loop.trips)

theorem off1_eq : ∀ k : Fin k1_t1_loop.trips, k1_off1 k = ![0, min (120 * k.val) 1912, 0] := by decide +kernel

/-- The chunk's window of the scale table, transposed. -/
theorem table_at (d n : Fin 128) : trip_k1_t1.sl.r arg3 (harg3.unread x2) k (ix2 d n)
    = x2 (ix3 0 ⟨min (120 * k.val) 1912 + n.val, by omega⟩ d) := by
  unfold trip_k1_t1.sl.r
  pointwise [k1_pay1]
  rw [View.readAt_eq_ld, harg3.read_unread]
  refine View.ld_unit_apply_of _ _ _ _ _ _ fun a => ?_
  refine Eq.trans ?_ (congrArg (· + _) (congrFun (off1_eq k) a).symm)
  fin_cases a <;> simp [ix3]

/-- The chunk's window of the zero table, transposed. -/
theorem table1_at (d n : Fin 128) : trip_k1_t1.sl.r_1 arg3 (harg3.unread x2) k (ix2 d n)
    = x2 (ix3 0 ⟨min (120 * k.val) 1912 + n.val, by omega⟩ d) :=
  table_at arg3 harg3 x2 k d n

theorem ldK0_at (j : Fin 15) (d : Fin 64) (l : Fin 128) : ldK0 arg2 (harg2.unread x1) k j (ix4 0 0 d l)
    = x1 (ix4 0 0 d ⟨1920 * k.val + 128 * j.val + l.val, by have := trips_lt k; omega⟩) := by
  unfold ldK0
  rw [View.readAt_eq_ld, harg2.read_unread]
  refine View.ld_unit_apply_of _ _ _ _ _ _ fun a => ?_
  refine Eq.trans ?_ (congrArg (· + _) (congrFun (k1_off2_eq k j) a).symm)
  fin_cases a <;> simp [ix4]

theorem ldK1_at (j : Fin 15) (d : Fin 64) (l : Fin 128) : ldK1 arg2 (harg2.unread x1) k j (ix4 0 0 d l)
    = x1 (ix4 0 1 d ⟨1920 * k.val + 128 * j.val + l.val, by have := trips_lt k; omega⟩) := by
  unfold ldK1
  rw [View.readAt_eq_ld, harg2.read_unread]
  refine View.ld_unit_apply_of _ _ _ _ _ _ fun a => ?_
  refine Eq.trans ?_ (congrArg (· + _) (congrFun (k1_off5_eq k j) a).symm)
  fin_cases a <;> simp [ix4]

/-- A tile of keys is the cached keys at its positions. -/
theorem tile_at (o : ℕ) (h : Fin 2) (j : Fin 15) (ho : o = 8 * j.val + h.val) (x3 : Vec Ideal S1x2040x128 .f32)
    (arg4 : Memref sig .tc .vmem S1x2040x128 .f32) (harg4 : arg4.IsWhole) (X : Vec Ideal S1x1x64x128 .i8)
    (hX : ∀ (d : Fin 64) (l : Fin 128), X (ix4 0 0 d l) = x1 (ix4 0 h d ⟨1920 * k.val + 128 * j.val + l.val, by have := trips_lt k; omega⟩))
    (d l : Fin 128) :
    tileK (trip_k1_t1.sl.r arg3 (harg3.unread x2) k) (trip_k1_t1.sl.r_1 arg4 (harg4.unread x3) k)
        (idxK (BitVec.ofNat 32 o) (trip_k1_t1.sl.v163 k)) X (ix2 d l)
      = keyC x1 x2 x3 h d ⟨1920 * k.val + 128 * j.val + l.val, by have := trips_lt k; omega⟩ := by
  have hk := trips_lt k
  pointwise [tileK, k1_pay7]
  have hi := idxK_at k o (by omega) d l
  have e : ∀ p : 0 < 128, ∀ n : ℕ, n = 2 * (l.val / 32) + o + (120 * k.val - min (120 * k.val) 1912) →
    ∀ q, (⟨n % 128, q⟩ : Fin 128) = ⟨2 * (l.val / 32) + o + (120 * k.val - min (120 * k.val) 1912), by omega⟩ := by
    intro _ n hn q; apply Fin.ext; show n % 128 = 2 * (l.val / 32) + o + (120 * k.val - min (120 * k.val) 1912); omega
  rw [e (by omega) _ hi]
  refine (congrArg₂ (· + ·) (congrArg₂ (· * ·) (codes_at X d l) (table_at arg3 harg3 x2 k d _)) (table1_at arg4 harg4 x3 k d _)).trans ?_
  rw [hX]
  unfold keyC
  have e2 : ∀ p, (⟨min (120 * k.val) 1912 + (2 * (l.val / 32) + o + (120 * k.val - min (120 * k.val) 1912)), p⟩ : Fin 2040)
      = ⟨2 * ((1920 * k.val + 128 * j.val + l.val) / 32) + h.val, by omega⟩ := by
    intro p; rw [Fin.mk.injEq]; omega
  rw [e2]

end Reads

/-- Fifteen tiles side by side. -/
def catK (T : Fin 15 → FVec Ideal S128x128 .bf16) : FVec Ideal S128x1920 .bf16 :=
  concatenate S128x1920 1 (List.ofFn fun j => (⟨S128x128, T j⟩ : Σ s : Shape, s.Idx → Ideal .bf16))
    concatenates_S128x128_S128x128_S128x128_S128x128_S128x128_S128x128_S128x128_S128x128_S128x128_S128x128_S128x128_S128x128_S128x128_S128x128_S128x128_S128x1920_d1

theorem catK_at (T : Fin 15 → FVec Ideal S128x128 .bf16) (f : Fin 128 → Fin 1920 → EReal)
    (hT : ∀ (j : Fin 15) (d l : Fin 128), T j (ix2 d l) = f d ⟨128 * j.val + l.val, by omega⟩) (d : Fin 128) (c : Fin 1920) :
    catK T (ix2 d c) = f d c := by
  refine (concatenate_ofFn_apply (s₁ := S128x128) (t := S128x1920) 1 T _ rfl 128 rfl (ix2 d c) ⟨c.val / 128, by omega⟩ rfl
    (ix2 d ⟨c.val % 128, by omega⟩) rfl ?_).trans ?_
  · intro b hb
    fin_cases b
    · rfl
    · exact absurd rfl hb
  · rw [hT]
    refine congrArg (f d) (Fin.ext ?_)
    show 128 * (c.val / 128) + c.val % 128 = c.val
    omega

/-- Scores, the concatenation named. -/
theorem scoreK_eq (q : FVec Ideal S8x128 .bf16) (T : Fin 15 → FVec Ideal S128x128 .bf16) :
    scoreK q T = mulf (matmul dot_S8x128_S128x1920_S8x1920_1_0_0_1_n_n none q (catK T) (constant S8x1920 .f32 0x00000000#32))
      (broadcast S8x1920 (Scalar.ofBits .f32 0x3DB504F3#32)) := rfl

/-- Scores of a chunk whose fifteen tiles together read `f`: the scaled products of the query rows with `f`. -/
theorem scoreK_at (q : FVec Ideal S8x128 .bf16) (T : Fin 15 → FVec Ideal S128x128 .bf16) (f : Fin 128 → Fin 1920 → EReal)
    (hT : ∀ (j : Fin 15) (d l : Fin 128), T j (ix2 d l) = f d ⟨128 * j.val + l.val, by omega⟩) (r : Fin 8) (c : Fin 1920) :
    scoreK q T (ix2 r c) = (∑ d : Fin 128, (q (ix2 r d) : EReal) * f d c) * Ideal.ofBits FTy.f32 1035273459#32 := by
  rw [scoreK_eq]
  pointwise []
  exact congrArg (· * _) (Finset.sum_congr rfl fun d _ => congrArg (_ * ·) (catK_at T f hT d c))

end Cert.KernelIdeal.Attn

end
-- ==== Proof.Softmax.lean ====
/- The running softmax over the extended reals.

A softmax that walks over the keys block by block keeps a running maximum `m`, a running sum `l` and a running
weighted sum `a`, all three relative to the maximum seen so far. This module states what the three hold after
`n` keys (`Run`), and that one block of keys takes `Run … n` to `Run … (n + B)`. No score or value is assumed
finite: the statements hold at `⊤` and `⊥` too, with the conventions `exp ⊥ = 0`, `⊤ - ⊤ = ⊥`. -/
module

public import Idealize.ShloMosaic.Lib.Pipeline.ValueKit

@[expose] public section

noncomputable section

open Idealize.ShloMosaic

namespace Cert.Softmax

/-- The maximum of the first `n` scores; `⊥` when there is none. -/
def top (s : ℕ → EReal) (n : ℕ) : EReal := (Finset.range n).sup s

/-- The running maximum, sum and weighted sum after the first `n` keys with scores `s` and values `v`. -/
structure Run (s v : ℕ → EReal) (n : ℕ) (m l a : EReal) : Prop where
  hmax : m = top s n
  hsum : l = ∑ t ∈ Finset.range n, Ideal.exp (s t - m)
  hacc : a = ∑ t ∈ Finset.range n, Ideal.exp (s t - m) * v t

/-- A real factor that is not negative goes inside a finite sum of extended reals. -/
theorem sum_mul_coe {ι : Type*} (S : Finset ι) (f : ι → EReal) (c : ℝ) (hc : 0 ≤ c) :
    (∑ i ∈ S, f i) * (c : EReal) = ∑ i ∈ S, f i * (c : EReal) := by
  classical
  induction S using Finset.induction_on with
  | empty => simp
  | insert i S hi ih =>
    rw [Finset.sum_insert hi, Finset.sum_insert hi, ← ih,
      EReal.right_distrib_of_nonneg_of_ne_top (EReal.coe_nonneg.mpr hc) (EReal.coe_ne_top c)]

/-- Anything minus `⊤` is `⊥`. -/
theorem sub_top (x : EReal) : x - ⊤ = ⊥ := by
  rw [sub_eq_add_neg, EReal.neg_top, EReal.add_bot]

/-- `⊥` minus anything is `⊥`. -/
theorem bot_sub (x : EReal) : (⊥ : EReal) - x = ⊥ := by
  rw [sub_eq_add_neg, EReal.bot_add]

/-- Raising the reference maximum from `M` to `M'` multiplies a weighted exponential sum by `exp (M - M')`. -/
theorem rescale (s w : ℕ → EReal) (n : ℕ) (M M' : EReal) (hs : ∀ t < n, s t ≤ M) (hM : M ≤ M') :
    (∑ t ∈ Finset.range n, Ideal.exp (s t - M) * w t) * Ideal.exp (M - M')
      = ∑ t ∈ Finset.range n, Ideal.exp (s t - M') * w t := by
  induction M with
  | bot =>
    have h : ∀ t ∈ Finset.range n, s t = ⊥ := fun t ht => le_bot_iff.mp (hs t (Finset.mem_range.mp ht))
    rw [Finset.sum_congr rfl (g := fun _ => 0) fun t ht => by rw [h t ht, bot_sub, Ideal.exp_bot, zero_mul],
      Finset.sum_congr (s₁ := Finset.range n) (f := fun t => Ideal.exp (s t - M') * w t) rfl (g := fun _ => 0)
        fun t ht => by rw [h t ht, bot_sub, Ideal.exp_bot, zero_mul]]
    simp
  | top =>
    obtain rfl := top_le_iff.mp hM
    simp [sub_top]
  | coe r =>
    induction M' with
    | bot => exact absurd hM (by simp)
    | top => simp [sub_top]
    | coe r' =>
      rw [← EReal.coe_sub, Ideal.exp_coe, sum_mul_coe _ _ _ (Real.exp_pos _).le]
      refine Finset.sum_congr rfl fun t ht => ?_
      have h := hs t (Finset.mem_range.mp ht)
      rw [mul_right_comm]
      congr 1
      induction hx : s t with
      | bot => simp [bot_sub]
      | top => rw [hx] at h; exact absurd h (by simp)
      | coe x =>
        rw [← EReal.coe_sub, ← EReal.coe_sub, Ideal.exp_coe, Ideal.exp_coe, ← EReal.coe_mul, ← Real.exp_add]
        congr 2; ring

/-- Before any key: maximum `⊥`, sums zero. -/
theorem Run.zero (s v : ℕ → EReal) : Run s v 0 ⊥ 0 0 := ⟨by simp [top], by simp, by simp⟩

/-- The maximum over `n + B` keys is the larger of the maximum over the first `n` and that over the next `B`. -/
theorem top_add (s : ℕ → EReal) (n B : ℕ) :
    top s (n + B) = max (top s n) (Finset.univ.fold max ⊥ fun i : Fin B => s (n + i.val)) := by
  have e : (Finset.univ.fold max ⊥ fun i : Fin B => s (n + i.val)) = Finset.univ.sup fun i : Fin B => s (n + i.val) := rfl
  rw [e]
  apply le_antisymm
  · refine Finset.sup_le fun t ht => ?_
    rw [Finset.mem_range] at ht
    by_cases h : t < n
    · exact le_max_of_le_left (Finset.le_sup (f := s) (Finset.mem_range.mpr h))
    · refine le_max_of_le_right ?_
      have := Finset.le_sup (f := fun i : Fin B => s (n + i.val)) (Finset.mem_univ (⟨t - n, by omega⟩ : Fin B))
      simpa [show n + (t - n) = t by omega] using this
  · refine max_le (Finset.sup_mono (by simp)) (Finset.sup_le fun i _ => ?_)
    exact Finset.le_sup (f := s) (Finset.mem_range.mpr (by have := i.isLt; omega))

/-- A sum over the first `n + B` keys is the sum over the first `n` plus the sum over the next `B`. -/
theorem sum_range_add (f : ℕ → EReal) (n B : ℕ) :
    ∑ t ∈ Finset.range (n + B), f t = (∑ t ∈ Finset.range n, f t) + ∑ i : Fin B, f (n + i.val) := by
  rw [Finset.sum_range_add, Finset.sum_range (f := fun x => f (n + x))]

/-- One block of `B` keys. -/
theorem Run.step {s v : ℕ → EReal} {n : ℕ} {m l a : EReal} (h : Run s v n m l a) (B : ℕ) (m' l' a' : EReal)
    (hm : m' = max m (Finset.univ.fold max ⊥ fun i : Fin B => s (n + i.val)))
    (hl : l' = l * Ideal.exp (m - m') + ∑ i : Fin B, Ideal.exp (s (n + i.val) - m'))
    (ha : a' = a * Ideal.exp (m - m') + ∑ i : Fin B, Ideal.exp (s (n + i.val) - m') * v (n + i.val)) :
    Run s v (n + B) m' l' a' := by
  have hle : ∀ t < n, s t ≤ m := fun t ht => by
    rw [h.hmax]; exact Finset.le_sup (f := s) (Finset.mem_range.mpr ht)
  have hmm : m ≤ m' := by rw [hm]; exact le_max_left _ _
  refine ⟨by rw [hm, top_add, h.hmax], ?_, ?_⟩
  · have r := rescale s (fun _ => 1) n m m' hle hmm
    simp only [mul_one] at r
    rw [hl, sum_range_add (fun t => Ideal.exp (s t - m')), h.hsum, r]
  · rw [ha, sum_range_add (fun t => Ideal.exp (s t - m') * v t), h.hacc, rescale s v n m m' hle hmm]

/-- After all `n` keys the quotient of the two sums is the plain softmax average: maximum, sum and weighted sum taken
    over all keys at once. -/
theorem Run.out {s v : ℕ → EReal} {n : ℕ} {m l a : EReal} (h : Run s v n m l a) :
    Ideal.div a l = Ideal.div
      (∑ t : Fin n, Ideal.exp (s t.val - Finset.univ.fold max ⊥ fun i : Fin n => s i.val) * v t.val)
      (∑ t : Fin n, Ideal.exp (s t.val - Finset.univ.fold max ⊥ fun i : Fin n => s i.val)) := by
  have e : m = Finset.univ.fold max ⊥ fun i : Fin n => s i.val := by
    have := top_add s 0 n
    simp only [Nat.zero_add] at this
    rw [h.hmax, this]; simp [top]
  rw [h.hacc, h.hsum, e, Finset.sum_range, Finset.sum_range]

end Cert.Softmax

end
-- ==== Proof.Block.lean ====
/- One head's online softmax, one row at a time.

A chunk of 1920 cached keys extends the running maximum, sum and accumulator of a row by 1920 positions (`run_chunk`); the
128 tail keys and the new key extend them by 129 more, and the block that is stored is the row's softmax over everything
(`block_out`). -/
module

public import proofs.«01_k».proof.Proof.TileAt
public import proofs.«01_k».proof.Proof.Softmax

@[expose] public section

set_option maxRecDepth 16384

noncomputable section

open Idealize.ShloMosaic

namespace Cert.KernelIdeal.Attn

open Cert.KernelIdeal Cert.KernelIdeal.Gen Cert.Softmax

/-- The scale the scores are multiplied by. -/
def sc : EReal := Ideal.ofBits FTy.f32 1035273459#32

/-- The reductions' initial value is minus infinity. -/
theorem ninf : Ideal.ofBits FTy.f32 4286578688#32 = ⊥ := by simp [Ideal.ofBits, Ideal.ieee]

theorem codesV_at (x : Vec Ideal S1x1x64x1920 .i8) (d : Fin 128) (l : Fin 1920) :
    k1_pay49 (F := Ideal) x (ix2 d l) = nib (x (ix4 0 0 ⟨d.val / 2, by omega⟩ l)) d.val := by
  pointwise [k1_pay49]
  split
  · rename_i h; exact nib_lo _ _ _ h
  · rename_i h; exact nib_hi _ _ _ h

/-- A chunk extends a row's run by its 1920 positions. -/
theorem run_chunk (s v : ℕ → EReal) (n : ℕ) (m l : FVec Ideal S8x1 .f32) (a : FVec Ideal S8x128 .f32) (S : FVec Ideal S8x1920 .f32)
    (b : Vec Ideal S1x1x64x1920 .i8) (vs vz : Vec Ideal S1x1x4x1920 .f32) (r : Fin 8) (d : Fin 128)
    (h : Run s v n (m (ix2 r 0)) (l (ix2 r 0)) (a (ix2 r d)))
    (hS : ∀ c : Fin 1920, S (ix2 r c) = s (n + c.val))
    (hV : ∀ c : Fin 1920, nib (b (ix4 0 0 ⟨d.val / 2, by omega⟩ c)) d.val * (vs (ix4 0 0 ⟨d.val / 32, by omega⟩ c) : EReal)
      + (vz (ix4 0 0 ⟨d.val / 32, by omega⟩ c) : EReal) = v (n + c.val)) :
    Run s v (n + 1920) (k1_pay50 m S (ix2 r 0)) (k1_pay53 m l S (ix2 r 0)) (k1_pay54 m a S (k1_pay49 (F := Ideal) b) vs vz (ix2 r d)) := by
  refine h.step 1920 _ _ _ ?_ ?_ ?_
  · simp only [← hS]
    pointwise [k1_pay50]
    rw [ninf]
  · simp only [← hS]
    pointwise [k1_pay53, k1_pay51, k1_pay52]
  · simp only [← hS, ← hV, ← codesV_at]
    pointwise [k1_pay54, k1_pay51, k1_pay52]

/-- The stored block of a head: the tail keys and the new key taken in, then the quotient. -/
def tailBlock (m l : FVec Ideal S8x1 .f32) (a : FVec Ideal S8x128 .f32) (q : FVec Ideal S8x128 .bf16) (kt vt : Vec Ideal S1x1x128x128 .bf16)
    (kn vn : Vec Ideal S1x1x128 .bf16) : FVec Ideal S1x8x128 .bf16 :=
  k1_pay120 (k1_pay114 m a q kt vt) (k1_pay117 m q kt kn) (k1_pay118 m q kt kn) (k1_pay119 m l q kt kn) vn

theorem block_out (s v : ℕ → EReal) (n : ℕ) (m l : FVec Ideal S8x1 .f32) (a : FVec Ideal S8x128 .f32) (q : FVec Ideal S8x128 .bf16)
    (kt vt : Vec Ideal S1x1x128x128 .bf16) (kn vn : Vec Ideal S1x1x128 .bf16) (r : Fin 8) (d : Fin 128)
    (h : Run s v n (m (ix2 r 0)) (l (ix2 r 0)) (a (ix2 r d)))
    (hk : ∀ i : Fin 128, (∑ x : Fin 128, (q (ix2 r x) : EReal) * kt (ix4 0 0 i x)) * sc = s (n + i.val))
    (hv : ∀ i : Fin 128, (vt (ix4 0 0 i d) : EReal) = v (n + i.val))
    (hkn : (∑ x : Fin 128, (q (ix2 r x) : EReal) * kn (ix3 0 0 x)) * sc = s (n + 128))
    (hvn : (vn (ix3 0 0 d) : EReal) = v (n + 128)) :
    tailBlock m l a q kt vt kn vn (ix3 0 r d)
      = Ideal.div (∑ t : Fin (n + 128 + 1), Ideal.exp (s t.val - Finset.univ.fold max ⊥ fun t' : Fin (n + 128 + 1) => s t'.val) * v t.val)
          (∑ t : Fin (n + 128 + 1), Ideal.exp (s t.val - Finset.univ.fold max ⊥ fun t' : Fin (n + 128 + 1) => s t'.val)) := by
  have e110 : ∀ i : Fin 128, k1_pay110 q kt (ix2 r i) = s (n + i.val) := fun i => by
    rw [← hk i]; pointwise [k1_pay110, sc]
  have e115 : k1_pay115 q kn (ix2 r 0) = s (n + 128) := by
    rw [← hkn]; pointwise [k1_pay115, sc]
  have h1 : Run s v (n + 128) (k1_pay111 m q kt (ix2 r 0))
      (l (ix2 r 0) * Ideal.exp (m (ix2 r 0) - k1_pay111 m q kt (ix2 r 0)) + ∑ x : Fin 128, Ideal.exp (k1_pay110 q kt (ix2 r x) - k1_pay111 m q kt (ix2 r 0)))
      (a (ix2 r d) * Ideal.exp (m (ix2 r 0) - k1_pay111 m q kt (ix2 r 0)) +
            ∑ x : Fin 128, Ideal.exp (k1_pay110 q kt (ix2 r x) - k1_pay111 m q kt (ix2 r 0)) * vt (ix4 0 0 x d)) := by
    refine h.step 128 _ _ _ ?_ ?_ ?_
    · simp only [← e110]
      pointwise [k1_pay111]
      rw [ninf]
    · simp only [← e110]
    · simp only [← e110, ← hv]
  have h2 := h1.step 1 (k1_pay116 m q kt kn (ix2 r 0)) _ _ (by
      rw [show (fun i : Fin 1 => s (n + 128 + i.val)) = fun i : Fin 1 => k1_pay115 q kn (ix2 r i) from funext fun i => by
        rw [Fin.fin_one_eq_zero i]; exact e115.symm]
      pointwise [k1_pay116]
      rw [ninf]) rfl rfl
  rw [← h2.out]
  simp only [Fin.sum_univ_one, Fin.val_eq_zero, add_zero, ← e115, ← hvn]
  pointwise [tailBlock, k1_pay120, k1_pay119, k1_pay118, k1_pay117, k1_pay114, k1_pay112, k1_pay113]
  simp only [Fin.sum_univ_one]

end Cert.KernelIdeal.Attn

end
-- ==== Proof.Loop.lean ====
/- The chunk loop of one batch row.

`keyAt` and `valAt` are a head's key and value at a position: cached (`keyC`, `valC`) below 32640, then the 128 tail
positions, then the new one. `scAt` is a query row's scaled score. Before chunk `k` the carried state of each head is,
row by row, the online softmax over the first `1920 k` positions (`loop_run`). -/
module

public import proofs.«01_k».proof.Proof.Block

@[expose] public section

set_option maxRecDepth 16384

noncomputable section

open Idealize.ShloMosaic Idealize.SL

namespace Cert.KernelIdeal.Attn

open Cert.KernelIdeal Cert.KernelIdeal.Gen Cert.Softmax

/-- The key of head `h` at dimension `d` and position `t`. -/
def keyAt (x1 : Vec Ideal S1x2x64x32640 .i8) (x2 x3 : Vec Ideal S1x2040x128 .f32) (x7 : Vec Ideal S1x2x128x128 .bf16) (x9 : Vec Ideal S1x2x128 .bf16)
    (h : Fin 2) (d : Fin 128) (t : ℕ) : EReal :=
  if ht : t < 32640 then keyC x1 x2 x3 h d ⟨t, ht⟩
  else if ht : t - 32640 < 128 then x7 (ix4 0 h ⟨t - 32640, ht⟩ d) else x9 (ix3 0 h d)

/-- The value of head `h` at dimension `d` and position `t`. -/
def valAt (x4 : Vec Ideal S1x2x64x32640 .i8) (x5 x6 : Vec Ideal S1x2x4x32640 .f32) (x8 : Vec Ideal S1x2x128x128 .bf16) (x10 : Vec Ideal S1x2x128 .bf16)
    (h : Fin 2) (d : Fin 128) (t : ℕ) : EReal :=
  if ht : t < 32640 then valC x4 x5 x6 h d ⟨t, ht⟩
  else if ht : t - 32640 < 128 then x8 (ix4 0 h ⟨t - 32640, ht⟩ d) else x10 (ix3 0 h d)

/-- The scaled score of query row `p` against head `h`'s key at position `t`. -/
def scAt (x0 : Vec Ideal S1x16x128 .bf16) (x1 : Vec Ideal S1x2x64x32640 .i8) (x2 x3 : Vec Ideal S1x2040x128 .f32) (x7 : Vec Ideal S1x2x128x128 .bf16)
    (x9 : Vec Ideal S1x2x128 .bf16) (h : Fin 2) (p : Fin 16) (t : ℕ) : EReal :=
  (∑ d : Fin 128, (x0 (ix3 0 p d) : EReal) * keyAt x1 x2 x3 x7 x9 h d t) * sc

section Loop
variable (𝒱 : Variants) (c : Dev nD) (bd : Option 𝒱.V) (i : grid1.Coords)
  (arg1 : Memref sig .tc .vmem S1x16x128 .bf16) (harg1 : arg1.IsWhole)
  (arg2 : Memref sig .tc .vmem S1x2x64x32640 .i8) (harg2 : arg2.IsWhole)
  (arg3 : Memref sig .tc .vmem S1x2040x128 .f32) (harg3 : arg3.IsWhole)
  (arg4 : Memref sig .tc .vmem S1x2040x128 .f32) (harg4 : arg4.IsWhole)
  (arg5 : Memref sig .tc .vmem S1x2x64x32640 .i8) (harg5 : arg5.IsWhole)
  (arg6 : Memref sig .tc .vmem S1x2x4x32640 .f32) (harg6 : arg6.IsWhole)
  (arg7 : Memref sig .tc .vmem S1x2x4x32640 .f32) (harg7 : arg7.IsWhole)
  (arg8 : Memref sig .tc .vmem S1x2x128x128 .bf16) (harg8 : arg8.IsWhole)
  (arg9 : Memref sig .tc .vmem S1x2x128x128 .bf16) (harg9 : arg9.IsWhole)
  (arg10 : Memref sig .tc .vmem S1x2x128 .bf16) (harg10 : arg10.IsWhole)
  (arg11 : Memref sig .tc .vmem S1x2x128 .bf16) (harg11 : arg11.IsWhole)
  (arg12 : Memref sig .tc .vmem S1x16x128 .bf16) (harg12 : arg12.IsWhole)
  (x0 : Vec Ideal S1x16x128 .bf16) (x1 : Vec Ideal S1x2x64x32640 .i8) (x2 : Vec Ideal S1x2040x128 .f32) (x3 : Vec Ideal S1x2040x128 .f32) (x4 : Vec Ideal S1x2x64x32640 .i8) (x5 : Vec Ideal S1x2x4x32640 .f32) (x6 : Vec Ideal S1x2x4x32640 .f32) (x7 : Vec Ideal S1x2x128x128 .bf16) (x8 : Vec Ideal S1x2x128x128 .bf16) (x9 : Vec Ideal S1x2x128 .bf16) (x10 : Vec Ideal S1x2x128 .bf16) (k : Fin k1_t1_loop.trips)

/-- One chunk's new state, by head. -/
theorem trip_eq (acc : FVec Ideal S8x1 .f32 × FVec Ideal S8x1 .f32 × FVec Ideal S8x128 .f32 × FVec Ideal S8x1 .f32 × FVec Ideal S8x1 .f32 × FVec Ideal S8x128 .f32) :
    tripR_k1_t1 𝒱 c bd i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) k acc
      = (k1_pay50 acc.1 (trip_k1_t1.sl.r_44 arg1 arg2 arg3 arg4 (harg1.unread x0) (harg2.unread x1) (harg3.unread x2) (harg4.unread x3) k),
         k1_pay53 acc.1 acc.2.1 (trip_k1_t1.sl.r_44 arg1 arg2 arg3 arg4 (harg1.unread x0) (harg2.unread x1) (harg3.unread x2) (harg4.unread x3) k),
         k1_pay54 acc.1 acc.2.2.1 (trip_k1_t1.sl.r_44 arg1 arg2 arg3 arg4 (harg1.unread x0) (harg2.unread x1) (harg3.unread x2) (harg4.unread x3) k)
           (k1_pay49 (View.readAt (Elt Ideal) arg5.view (Rect.unit (s := S1x2x64x32640) (k1_off3 k) S1x1x64x1920.size (k1_off3_inb k)).toLoadRect (harg5.unread x4)))
           (View.readAt (Elt Ideal) arg6.view (Rect.unit (s := S1x2x4x32640) (k1_off4 k) S1x1x4x1920.size (k1_off4_inb k)).toLoadRect (harg6.unread x5))
           (View.readAt (Elt Ideal) arg7.view (Rect.unit (s := S1x2x4x32640) (k1_off4 k) S1x1x4x1920.size (k1_off4_inb k)).toLoadRect (harg7.unread x6)),
         k1_pay50 acc.2.2.2.1 (trip_k1_t1.sl.r_82 arg1 arg2 arg3 arg4 (harg1.unread x0) (harg2.unread x1) (harg3.unread x2) (harg4.unread x3) k),
         k1_pay53 acc.2.2.2.1 acc.2.2.2.2.1 (trip_k1_t1.sl.r_82 arg1 arg2 arg3 arg4 (harg1.unread x0) (harg2.unread x1) (harg3.unread x2) (harg4.unread x3) k),
         k1_pay54 acc.2.2.2.1 acc.2.2.2.2.2 (trip_k1_t1.sl.r_82 arg1 arg2 arg3 arg4 (harg1.unread x0) (harg2.unread x1) (harg3.unread x2) (harg4.unread x3) k)
           (k1_pay49 (View.readAt (Elt Ideal) arg5.view (Rect.unit (s := S1x2x64x32640) (k1_off6 k) S1x1x64x1920.size (k1_off6_inb k)).toLoadRect (harg5.unread x4)))
           (View.readAt (Elt Ideal) arg6.view (Rect.unit (s := S1x2x4x32640) (k1_off7 k) S1x1x4x1920.size (k1_off7_inb k)).toLoadRect (harg6.unread x5))
           (View.readAt (Elt Ideal) arg7.view (Rect.unit (s := S1x2x4x32640) (k1_off7 k) S1x1x4x1920.size (k1_off7_inb k)).toLoadRect (harg7.unread x6))) := by
  unfold tripR_k1_t1 trip_k1_t1
  rfl

/-- The queries of a head. -/
theorem q0_at (r : Fin 8) (d : Fin 128) : trip_k1_t1.sl.r_2 arg1 (harg1.unread x0) (ix2 r d) = x0 (ix3 0 ⟨r.val, by omega⟩ d) := by
  unfold trip_k1_t1.sl.r_2
  pointwise [k1_pay3]
  rw [View.readAt_eq_ld, harg1.read_unread]
  refine View.ld_unit_apply_of _ _ _ _ _ _ fun a => ?_
  fin_cases a <;> simp [ix3]

theorem q1_at (r : Fin 8) (d : Fin 128) : trip_k1_t1.sl.r_49 arg1 (harg1.unread x0) (ix2 r d) = x0 (ix3 0 ⟨8 + r.val, by omega⟩ d) := by
  unfold trip_k1_t1.sl.r_49
  pointwise [k1_pay55]
  rw [View.readAt_eq_ld, harg1.read_unread]
  refine View.ld_unit_apply_of _ _ _ _ _ _ fun a => ?_
  fin_cases a <;> simp [ix3]

/-- Head 0's scores of chunk `k`. -/
theorem s0_at (r : Fin 8) (l : Fin 1920) : trip_k1_t1.sl.r_44 arg1 arg2 arg3 arg4 (harg1.unread x0) (harg2.unread x1) (harg3.unread x2) (harg4.unread x3) k (ix2 r l)
    = scAt x0 x1 x2 x3 x7 x9 0 ⟨r.val, by omega⟩ (1920 * k.val + l.val) := by
  have hk := trips_lt k
  rw [score0]
  refine (scoreK_at _ _ (fun d l => keyC x1 x2 x3 0 d ⟨1920 * k.val + l.val, by omega⟩) (fun j d l => ?_) r l).trans ?_
  · refine (tile_at arg3 harg3 x1 x2 k (8 * j.val) 0 j rfl x3 arg4 harg4 _ (fun d l => ldK0_at arg2 harg2 x1 k j d l) d l).trans ?_
    congr 2
    simp only [Nat.add_assoc]
  · unfold scAt keyAt sc
    simp only [q0_at]
    refine congrArg (· * _) (Finset.sum_congr rfl fun d _ => ?_)
    rw [dif_pos (by omega)]

/-- Head 1's scores of chunk `k`. -/
theorem s1_at (r : Fin 8) (l : Fin 1920) : trip_k1_t1.sl.r_82 arg1 arg2 arg3 arg4 (harg1.unread x0) (harg2.unread x1) (harg3.unread x2) (harg4.unread x3) k (ix2 r l)
    = scAt x0 x1 x2 x3 x7 x9 1 ⟨8 + r.val, by omega⟩ (1920 * k.val + l.val) := by
  have hk := trips_lt k
  rw [score1]
  refine (scoreK_at _ _ (fun d l => keyC x1 x2 x3 1 d ⟨1920 * k.val + l.val, by omega⟩) (fun j d l => ?_) r l).trans ?_
  · refine (tile_at arg3 harg3 x1 x2 k (8 * j.val + 1) 1 j rfl x3 arg4 harg4 _ (fun d l => ldK1_at arg2 harg2 x1 k j d l) d l).trans ?_
    congr 2
    simp only [Nat.add_assoc]
  · unfold scAt keyAt sc
    simp only [q1_at]
    refine congrArg (· * _) (Finset.sum_congr rfl fun d _ => ?_)
    rw [dif_pos (by omega)]

/-- A load of a chunk of value codes, scales or zeros, read at its position. -/
theorem v0_at (d : Fin 64) (l : Fin 1920) :
    View.readAt (Elt Ideal) arg5.view (Rect.unit (s := S1x2x64x32640) (k1_off3 k) S1x1x64x1920.size (k1_off3_inb k)).toLoadRect (harg5.unread x4) (ix4 0 0 d l)
      = x4 (ix4 0 0 d ⟨1920 * k.val + l.val, by have := trips_lt k; omega⟩) := by
  rw [View.readAt_eq_ld, harg5.read_unread]
  refine View.ld_unit_apply_of _ _ _ _ _ _ fun a => ?_
  refine Eq.trans ?_ (congrArg (· + _) (congrFun (k1_off3_eq k) a).symm)
  fin_cases a <;> simp [ix4]

theorem v1_at (d : Fin 64) (l : Fin 1920) :
    View.readAt (Elt Ideal) arg5.view (Rect.unit (s := S1x2x64x32640) (k1_off6 k) S1x1x64x1920.size (k1_off6_inb k)).toLoadRect (harg5.unread x4) (ix4 0 0 d l)
      = x4 (ix4 0 1 d ⟨1920 * k.val + l.val, by have := trips_lt k; omega⟩) := by
  rw [View.readAt_eq_ld, harg5.read_unread]
  refine View.ld_unit_apply_of _ _ _ _ _ _ fun a => ?_
  refine Eq.trans ?_ (congrArg (· + _) (congrFun (k1_off6_eq k) a).symm)
  fin_cases a <;> simp [ix4]

theorem g0_at (g : Fin 4) (l : Fin 1920) :
    View.readAt (Elt Ideal) arg6.view (Rect.unit (s := S1x2x4x32640) (k1_off4 k) S1x1x4x1920.size (k1_off4_inb k)).toLoadRect (harg6.unread x5) (ix4 0 0 g l)
      = x5 (ix4 0 0 g ⟨1920 * k.val + l.val, by have := trips_lt k; omega⟩) := by
  rw [View.readAt_eq_ld, harg6.read_unread]
  refine View.ld_unit_apply_of _ _ _ _ _ _ fun a => ?_
  refine Eq.trans ?_ (congrArg (· + _) (congrFun (k1_off4_eq k) a).symm)
  fin_cases a <;> simp [ix4]

theorem g1_at (g : Fin 4) (l : Fin 1920) :
    View.readAt (Elt Ideal) arg6.view (Rect.unit (s := S1x2x4x32640) (k1_off7 k) S1x1x4x1920.size (k1_off7_inb k)).toLoadRect (harg6.unread x5) (ix4 0 0 g l)
      = x5 (ix4 0 1 g ⟨1920 * k.val + l.val, by have := trips_lt k; omega⟩) := by
  rw [View.readAt_eq_ld, harg6.read_unread]
  refine View.ld_unit_apply_of _ _ _ _ _ _ fun a => ?_
  refine Eq.trans ?_ (congrArg (· + _) (congrFun (k1_off7_eq k) a).symm)
  fin_cases a <;> simp [ix4]

/-- The carried state before chunk `k`, from the loop's initial one. -/
abbrev stt (n : ℕ) := st_k1_t1 𝒱 c bd i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) (k1_pay98 (F := Ideal), k1_pay99, k1_pay100, k1_pay101, k1_pay102, k1_pay103) n

/-- The state before chunk `n` is, row by row, the online softmax over the first `1920 n` positions. -/
theorem loop_run (r : Fin 8) (d : Fin 128) : ∀ n : ℕ, n ≤ 17 →
    Run (scAt x0 x1 x2 x3 x7 x9 0 ⟨r.val, by omega⟩) (valAt x4 x5 x6 x8 x10 0 d) (1920 * n)
      ((stt 𝒱 c bd i arg1 harg1 arg2 harg2 arg3 harg3 arg4 harg4 arg5 harg5 arg6 harg6 arg7 harg7 arg8 harg8 arg9 harg9 arg10 harg10 arg11 harg11 arg12 harg12 x0 x1 x2 x3 x4 x5 x6 n).1 (ix2 r 0))
      ((stt 𝒱 c bd i arg1 harg1 arg2 harg2 arg3 harg3 arg4 harg4 arg5 harg5 arg6 harg6 arg7 harg7 arg8 harg8 arg9 harg9 arg10 harg10 arg11 harg11 arg12 harg12 x0 x1 x2 x3 x4 x5 x6 n).2.1 (ix2 r 0))
      ((stt 𝒱 c bd i arg1 harg1 arg2 harg2 arg3 harg3 arg4 harg4 arg5 harg5 arg6 harg6 arg7 harg7 arg8 harg8 arg9 harg9 arg10 harg10 arg11 harg11 arg12 harg12 x0 x1 x2 x3 x4 x5 x6 n).2.2.1 (ix2 r d))
    ∧ Run (scAt x0 x1 x2 x3 x7 x9 1 ⟨8 + r.val, by omega⟩) (valAt x4 x5 x6 x8 x10 1 d) (1920 * n)
      ((stt 𝒱 c bd i arg1 harg1 arg2 harg2 arg3 harg3 arg4 harg4 arg5 harg5 arg6 harg6 arg7 harg7 arg8 harg8 arg9 harg9 arg10 harg10 arg11 harg11 arg12 harg12 x0 x1 x2 x3 x4 x5 x6 n).2.2.2.1 (ix2 r 0))
      ((stt 𝒱 c bd i arg1 harg1 arg2 harg2 arg3 harg3 arg4 harg4 arg5 harg5 arg6 harg6 arg7 harg7 arg8 harg8 arg9 harg9 arg10 harg10 arg11 harg11 arg12 harg12 x0 x1 x2 x3 x4 x5 x6 n).2.2.2.2.1 (ix2 r 0))
      ((stt 𝒱 c bd i arg1 harg1 arg2 harg2 arg3 harg3 arg4 harg4 arg5 harg5 arg6 harg6 arg7 harg7 arg8 harg8 arg9 harg9 arg10 harg10 arg11 harg11 arg12 harg12 x0 x1 x2 x3 x4 x5 x6 n).2.2.2.2.2 (ix2 r d))
  | 0, _ => by
    have e1 : k1_pay98 (F := Ideal) (ix2 r 0) = ⊥ := by pointwise [k1_pay98]; exact ninf
    have e2 : k1_pay99 (F := Ideal) (ix2 r 0) = 0 := by pointwise [k1_pay99]
    have e3 : k1_pay100 (F := Ideal) (ix2 r d) = 0 := by pointwise [k1_pay100]
    have e4 : k1_pay101 (F := Ideal) (ix2 r 0) = ⊥ := by pointwise [k1_pay101]; exact ninf
    have e5 : k1_pay102 (F := Ideal) (ix2 r 0) = 0 := by pointwise [k1_pay102]
    have e6 : k1_pay103 (F := Ideal) (ix2 r d) = 0 := by pointwise [k1_pay103]
    rw [stt, st_k1_t1_zero]
    refine ⟨?_, ?_⟩
    · show Run _ _ (1920 * 0) (k1_pay98 (F := Ideal) (ix2 r 0)) (k1_pay99 (F := Ideal) (ix2 r 0)) (k1_pay100 (F := Ideal) (ix2 r d))
      rw [e1, e2, e3]; exact Run.zero _ _
    · show Run _ _ (1920 * 0) (k1_pay101 (F := Ideal) (ix2 r 0)) (k1_pay102 (F := Ideal) (ix2 r 0)) (k1_pay103 (F := Ideal) (ix2 r d))
      rw [e4, e5, e6]; exact Run.zero _ _
  | n + 1, hn => by
    obtain ⟨h0, h1⟩ := loop_run r d n (by omega)
    have hk : n < k1_t1_loop.trips := hn
    have e := st_k1_t1_succ 𝒱 c bd i arg1 harg1 arg2 harg2 arg3 harg3 arg4 harg4 arg5 harg5 arg6 harg6 arg7 harg7 arg8 harg8 arg9 harg9 arg10 harg10 arg11 harg11 arg12 harg12 (harg1.unread x0) (harg2.unread x1) (harg3.unread x2) (harg4.unread x3) (harg5.unread x4) (harg6.unread x5) (harg7.unread x6) (k1_pay98 (F := Ideal), k1_pay99, k1_pay100, k1_pay101, k1_pay102, k1_pay103) ⟨n, hk⟩
    rw [trip_eq] at e
    unfold stt at h0 h1 ⊢
    rw [e]
    refine ⟨?_, ?_⟩
    · refine run_chunk _ _ (1920 * n) _ _ _ _ _ _ _ r d h0 (fun l => s0_at arg1 harg1 arg2 harg2 arg3 harg3 arg4 harg4 x0 x1 x2 x3 x7 x9 ⟨n, hk⟩ r l) fun l => ?_
      rw [v0_at, g0_at, g0_at]
      unfold valAt valC
      rw [dif_pos (show 1920 * n + l.val < 32640 by omega)]
    · refine run_chunk _ _ (1920 * n) _ _ _ _ _ _ _ r d h1 (fun l => s1_at arg1 harg1 arg2 harg2 arg3 harg3 arg4 harg4 x0 x1 x2 x3 x7 x9 ⟨n, hk⟩ r l) fun l => ?_
      rw [v1_at, g1_at, g1_at]
      unfold valAt valC
      rw [dif_pos (show 1920 * n + l.val < 32640 by omega)]

end Loop

end Cert.KernelIdeal.Attn

end
-- ==== Proof.Out.lean ====
/- The block a batch row stores.

The attention kernel's last two stores, one per head, are the loop's final state with the tail keys and the new key
taken in (`pieces_eq`); read back at a row and a dimension the block is `att`: the softmax of the row's scaled scores
over all 32769 positions, applied to the values (`out_at`). -/
module

public import proofs.«01_k».proof.Proof.Loop
public import proofs.«01_k».proof.Proof.Gen.KernelIdeal.Frame
public import Idealize.ShloMosaic.Lib.WritesUnit

@[expose] public section

set_option maxRecDepth 16384

noncomputable section

open Idealize.ShloMosaic Idealize.SL

namespace Cert.KernelIdeal.Attn

open Cert.KernelIdeal Cert.KernelIdeal.Gen Cert.Softmax
/-- Softmax of the scores `s` over 32769 positions, applied to the values `v`. -/
def att (s v : ℕ → EReal) : EReal :=
  Ideal.div (∑ t : Fin 32769, Ideal.exp (s t.val - Finset.univ.fold max ⊥ fun t' : Fin 32769 => s t'.val) * v t.val)
    (∑ t : Fin 32769, Ideal.exp (s t.val - Finset.univ.fold max ⊥ fun t' : Fin 32769 => s t'.val))

variable (c : Dev nD) (i : grid1.Coords)
  (arg1 : Memref sig .tc .vmem S1x16x128 .bf16) (harg1 : arg1.IsWhole)
  (arg2 : Memref sig .tc .vmem S1x2x64x32640 .i8) (harg2 : arg2.IsWhole)
  (arg3 : Memref sig .tc .vmem S1x2040x128 .f32) (harg3 : arg3.IsWhole)
  (arg4 : Memref sig .tc .vmem S1x2040x128 .f32) (harg4 : arg4.IsWhole)
  (arg5 : Memref sig .tc .vmem S1x2x64x32640 .i8) (harg5 : arg5.IsWhole)
  (arg6 : Memref sig .tc .vmem S1x2x4x32640 .f32) (harg6 : arg6.IsWhole)
  (arg7 : Memref sig .tc .vmem S1x2x4x32640 .f32) (harg7 : arg7.IsWhole)
  (arg8 : Memref sig .tc .vmem S1x2x128x128 .bf16) (harg8 : arg8.IsWhole)
  (arg9 : Memref sig .tc .vmem S1x2x128x128 .bf16) (harg9 : arg9.IsWhole)
  (arg10 : Memref sig .tc .vmem S1x2x128 .bf16) (harg10 : arg10.IsWhole)
  (arg11 : Memref sig .tc .vmem S1x2x128 .bf16) (harg11 : arg11.IsWhole)
  (arg12 : Memref sig .tc .vmem S1x16x128 .bf16) (harg12 : arg12.IsWhole)
  (x0 : Vec Ideal S1x16x128 .bf16) (x1 : Vec Ideal S1x2x64x32640 .i8) (x2 : Vec Ideal S1x2040x128 .f32) (x3 : Vec Ideal S1x2040x128 .f32) (x4 : Vec Ideal S1x2x64x32640 .i8) (x5 : Vec Ideal S1x2x4x32640 .f32) (x6 : Vec Ideal S1x2x4x32640 .f32) (x7 : Vec Ideal S1x2x128x128 .bf16) (x8 : Vec Ideal S1x2x128x128 .bf16) (x9 : Vec Ideal S1x2x128 .bf16) (x10 : Vec Ideal S1x2x128 .bf16)

/-- The two stores of a point. -/
theorem pieces_eq : (kernelRun1_A c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1 = [
    ⟨Rect.unit (s := S1x16x128) ![0, 8, 0] S1x8x128.size (by decide), (tailBlock (stt Variants.none c none i arg1 harg1 arg2 harg2 arg3 harg3 arg4 harg4 arg5 harg5 arg6 harg6 arg7 harg7 arg8 harg8 arg9 harg9 arg10 harg10 arg11 harg11 arg12 harg12 x0 x1 x2 x3 x4 x5 x6 17).2.2.2.1 (stt Variants.none c none i arg1 harg1 arg2 harg2 arg3 harg3 arg4 harg4 arg5 harg5 arg6 harg6 arg7 harg7 arg8 harg8 arg9 harg9 arg10 harg10 arg11 harg11 arg12 harg12 x0 x1 x2 x3 x4 x5 x6 17).2.2.2.2.1 (stt Variants.none c none i arg1 harg1 arg2 harg2 arg3 harg3 arg4 harg4 arg5 harg5 arg6 harg6 arg7 harg7 arg8 harg8 arg9 harg9 arg10 harg10 arg11 harg11 arg12 harg12 x0 x1 x2 x3 x4 x5 x6 17).2.2.2.2.2 (k1_pay109 (View.readAt (Elt Ideal) arg1.view (Rect.unit (s := S1x16x128) ![0, 8, 0] S1x8x128.size (by decide)).toLoadRect (harg1.unread x0)))
        (View.readAt (Elt Ideal) arg8.view (Rect.unit (s := S1x2x128x128) ![0, 1, 0, 0] S1x1x128x128.size (by decide)).toLoadRect (harg8.unread x7))
        (View.readAt (Elt Ideal) arg9.view (Rect.unit (s := S1x2x128x128) ![0, 1, 0, 0] S1x1x128x128.size (by decide)).toLoadRect (harg9.unread x8))
        (View.readAt (Elt Ideal) arg10.view (Rect.unit (s := S1x2x128) ![0, 1, 0] S1x1x128.size (by decide)).toLoadRect (harg10.unread x9))
        (View.readAt (Elt Ideal) arg11.view (Rect.unit (s := S1x2x128) ![0, 1, 0] S1x1x128.size (by decide)).toLoadRect (harg11.unread x10)))⟩,
    ⟨Rect.unit (s := S1x16x128) ![0, 0, 0] S1x8x128.size (by decide), (tailBlock (stt Variants.none c none i arg1 harg1 arg2 harg2 arg3 harg3 arg4 harg4 arg5 harg5 arg6 harg6 arg7 harg7 arg8 harg8 arg9 harg9 arg10 harg10 arg11 harg11 arg12 harg12 x0 x1 x2 x3 x4 x5 x6 17).1 (stt Variants.none c none i arg1 harg1 arg2 harg2 arg3 harg3 arg4 harg4 arg5 harg5 arg6 harg6 arg7 harg7 arg8 harg8 arg9 harg9 arg10 harg10 arg11 harg11 arg12 harg12 x0 x1 x2 x3 x4 x5 x6 17).2.1 (stt Variants.none c none i arg1 harg1 arg2 harg2 arg3 harg3 arg4 harg4 arg5 harg5 arg6 harg6 arg7 harg7 arg8 harg8 arg9 harg9 arg10 harg10 arg11 harg11 arg12 harg12 x0 x1 x2 x3 x4 x5 x6 17).2.2.1 (k1_pay109 (View.readAt (Elt Ideal) arg1.view (Rect.unit (s := S1x16x128) ![0, 0, 0] S1x8x128.size (by decide)).toLoadRect (harg1.unread x0)))
        (View.readAt (Elt Ideal) arg8.view (Rect.unit (s := S1x2x128x128) ![0, 0, 0, 0] S1x1x128x128.size (by decide)).toLoadRect (harg8.unread x7))
        (View.readAt (Elt Ideal) arg9.view (Rect.unit (s := S1x2x128x128) ![0, 0, 0, 0] S1x1x128x128.size (by decide)).toLoadRect (harg9.unread x8))
        (View.readAt (Elt Ideal) arg10.view (Rect.unit (s := S1x2x128) ![0, 0, 0] S1x1x128.size (by decide)).toLoadRect (harg10.unread x9))
        (View.readAt (Elt Ideal) arg11.view (Rect.unit (s := S1x2x128) ![0, 0, 0] S1x1x128.size (by decide)).toLoadRect (harg11.unread x10)))⟩] := by
  unfold kernelRun1_A
  dsimp only
  rfl

/-- What a point leaves in the rows of head 0: the attention of its queries over every position. -/
theorem out_at0 (r : Fin 8) (d : Fin 128) : out1_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 (ix3 0 ⟨r.val, by omega⟩ d)
    = att (scAt x0 x1 x2 x3 x7 x9 0 ⟨r.val, by omega⟩) (valAt x4 x5 x6 x8 x10 0 d) := by
  unfold out1_A_11
  rw [pieces_eq]
  rw [View.read_writes_cons_unit_of_not_mem _ _ _ _ _ _ rfl 1 (Or.inl (show r.val < 8 from r.isLt))]
  rw [View.read_writes_cons_unit_of_mem _ _ _ _ _ _ (ix3 0 r d) rfl (by intro a; fin_cases a <;> simp [ix3])]
  have hr := (loop_run Variants.none c none i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 r d 17 (by omega)).1
  refine block_out _ _ (1920 * 17) _ _ _ _ _ _ _ _ r d hr (fun j => ?_) (fun j => ?_) ?_ ?_
  · unfold scAt
    refine congrArg (· * sc) (Finset.sum_congr rfl fun x _ => congrArg₂ (· * ·) ?_ ?_)
    · pointwise [k1_pay109]
      rw [View.readAt_eq_ld, harg1.read_unread]
      refine View.ld_unit_apply_of _ _ _ _ _ _ fun a => ?_
      fin_cases a <;> simp [ix3]
    · unfold keyAt
      rw [dif_neg (by omega), dif_pos (by omega), View.readAt_eq_ld, harg8.read_unread]
      refine View.ld_unit_apply_of _ _ _ _ _ _ fun a => ?_
      fin_cases a <;> simp [ix4]
  · unfold valAt
    rw [dif_neg (by omega), dif_pos (by omega), View.readAt_eq_ld, harg9.read_unread]
    refine View.ld_unit_apply_of _ _ _ _ _ _ fun a => ?_
    fin_cases a <;> simp [ix4]
  · unfold scAt
    refine congrArg (· * sc) (Finset.sum_congr rfl fun x _ => congrArg₂ (· * ·) ?_ ?_)
    · pointwise [k1_pay109]
      rw [View.readAt_eq_ld, harg1.read_unread]
      refine View.ld_unit_apply_of _ _ _ _ _ _ fun a => ?_
      fin_cases a <;> simp [ix3]
    · unfold keyAt
      rw [dif_neg (by omega), dif_neg (by omega), View.readAt_eq_ld, harg10.read_unread]
      refine View.ld_unit_apply_of _ _ _ _ _ _ fun a => ?_
      fin_cases a <;> simp [ix3]
  · unfold valAt
    rw [dif_neg (by omega), dif_neg (by omega), View.readAt_eq_ld, harg11.read_unread]
    refine View.ld_unit_apply_of _ _ _ _ _ _ fun a => ?_
    fin_cases a <;> simp [ix3]

/-- What a point leaves in the rows of head 1: the attention of its queries over every position. -/
theorem out_at1 (r : Fin 8) (d : Fin 128) : out1_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 (ix3 0 ⟨8 + r.val, by omega⟩ d)
    = att (scAt x0 x1 x2 x3 x7 x9 1 ⟨8 + r.val, by omega⟩) (valAt x4 x5 x6 x8 x10 1 d) := by
  unfold out1_A_11
  rw [pieces_eq]
  rw [View.read_writes_cons_unit_of_mem _ _ _ _ _ _ (ix3 0 r d) rfl (by intro a; fin_cases a <;> simp [ix3])]
  have hr := (loop_run Variants.none c none i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 r d 17 (by omega)).2
  refine block_out _ _ (1920 * 17) _ _ _ _ _ _ _ _ r d hr (fun j => ?_) (fun j => ?_) ?_ ?_
  · unfold scAt
    refine congrArg (· * sc) (Finset.sum_congr rfl fun x _ => congrArg₂ (· * ·) ?_ ?_)
    · pointwise [k1_pay109]
      rw [View.readAt_eq_ld, harg1.read_unread]
      refine View.ld_unit_apply_of _ _ _ _ _ _ fun a => ?_
      fin_cases a <;> simp [ix3]
    · unfold keyAt
      rw [dif_neg (by omega), dif_pos (by omega), View.readAt_eq_ld, harg8.read_unread]
      refine View.ld_unit_apply_of _ _ _ _ _ _ fun a => ?_
      fin_cases a <;> simp [ix4]
  · unfold valAt
    rw [dif_neg (by omega), dif_pos (by omega), View.readAt_eq_ld, harg9.read_unread]
    refine View.ld_unit_apply_of _ _ _ _ _ _ fun a => ?_
    fin_cases a <;> simp [ix4]
  · unfold scAt
    refine congrArg (· * sc) (Finset.sum_congr rfl fun x _ => congrArg₂ (· * ·) ?_ ?_)
    · pointwise [k1_pay109]
      rw [View.readAt_eq_ld, harg1.read_unread]
      refine View.ld_unit_apply_of _ _ _ _ _ _ fun a => ?_
      fin_cases a <;> simp [ix3]
    · unfold keyAt
      rw [dif_neg (by omega), dif_neg (by omega), View.readAt_eq_ld, harg10.read_unread]
      refine View.ld_unit_apply_of _ _ _ _ _ _ fun a => ?_
      fin_cases a <;> simp [ix3]
  · unfold valAt
    rw [dif_neg (by omega), dif_neg (by omega), View.readAt_eq_ld, harg11.read_unread]
    refine View.ld_unit_apply_of _ _ _ _ _ _ fun a => ?_
    fin_cases a <;> simp [ix3]

/-- What a point leaves at row `p`, dimension `d`. -/
theorem out_at (p : Fin 16) (d : Fin 128) : out1_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 (ix3 0 p d)
    = att (scAt x0 x1 x2 x3 x7 x9 ⟨p.val / 8, by omega⟩ p) (valAt x4 x5 x6 x8 x10 ⟨p.val / 8, by omega⟩ d) := by
  by_cases h : p.val < 8
  · have e := out_at0 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 ⟨p.val, h⟩ d
    rw [show (⟨p.val / 8, by omega⟩ : Fin 2) = 0 from Fin.ext (show p.val / 8 = 0 by omega)]
    exact e
  · have e := out_at1 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 ⟨p.val - 8, by omega⟩ d
    have ep : (⟨8 + (p.val - 8), by omega⟩ : Fin 16) = p := Fin.ext (show 8 + (p.val - 8) = p.val by omega)
    dsimp only at e
    rw [ep] at e
    rw [show (⟨p.val / 8, by omega⟩ : Fin 2) = 1 from Fin.ext (show p.val / 8 = 1 by omega)]
    exact e

end Cert.KernelIdeal.Attn

end
-- ==== Proof.Spec.lean ====
/- The results as mathematics.

For one batch row and one key/value head: `k`, `v` are the new key and value, `w` the window of recent tokens, `c` the
packed codes of the cache with scales `s` and zeros `z`. Each result of the two programs is one of the functions here. -/
module

public import proofs.«01_k».proof.Proof.QuantMath
public import proofs.«01_k».proof.Proof.Out

@[expose] public section

noncomputable section

open Idealize.ShloMosaic

namespace Cert.Spec

open Cert.Quant Cert.KernelIdeal.Attn

/-- The smallest of the new key and the last 31 tokens of the window, in dimension `d`. -/
def kLo (k : Fin 128 → EReal) (w : Fin 128 → Fin 128 → EReal) (d : Fin 128) : EReal :=
  Finset.univ.fold min ⊤ fun t : Fin 32 => if h : t.val < 31 then w ⟨97 + t.val, by omega⟩ d else k d

/-- The largest of the same. -/
def kHi (k : Fin 128 → EReal) (w : Fin 128 → Fin 128 → EReal) (d : Fin 128) : EReal :=
  Finset.univ.fold max ⊥ fun t : Fin 32 => if h : t.val < 31 then w ⟨97 + t.val, by omega⟩ d else k d

/-- The scale of the new key's dimension `d`. -/
def kScale (k : Fin 128 → EReal) (w : Fin 128 → Fin 128 → EReal) (d : Fin 128) : EReal := qscale (kLo k w d) (kHi k w d)

/-- The new key's code in dimension `d`. -/
def kNat (k : Fin 128 → EReal) (w : Fin 128 → Fin 128 → EReal) (d : Fin 128) : ℕ := qnat (k d) (kLo k w d) (kHi k w d)

/-- The new key, dequantised. -/
def kDeq (k : Fin 128 → EReal) (w : Fin 128 → Fin 128 → EReal) (d : Fin 128) : EReal :=
  ((kNat k w d : ℝ) : EReal) * kScale k w d + kLo k w d

/-- The smallest of the new value's group `g`. -/
def vLo (v : Fin 128 → EReal) (g : Fin 4) : EReal :=
  Finset.univ.fold min ⊤ fun i : Fin 32 => v ⟨32 * g.val + i.val, by omega⟩

/-- The largest of the new value's group `g`. -/
def vHi (v : Fin 128 → EReal) (g : Fin 4) : EReal :=
  Finset.univ.fold max ⊥ fun i : Fin 32 => v ⟨32 * g.val + i.val, by omega⟩

/-- The scale of the new value's group `g`. -/
def vScale (v : Fin 128 → EReal) (g : Fin 4) : EReal := qscale (vLo v g) (vHi v g)

/-- The group of a dimension. -/
abbrev grp (x : Fin 128) : Fin 4 := ⟨x.val / 32, by omega⟩

/-- The new value's code in dimension `d`. -/
def vNat (v : Fin 128 → EReal) (d : Fin 128) : ℕ := qnat (v d) (vLo v (grp d)) (vHi v (grp d))

/-- The new value, dequantised. -/
def vDeq (v : Fin 128 → EReal) (d : Fin 128) : EReal :=
  ((vNat v d : ℝ) : EReal) * vScale v (grp d) + vLo v (grp d)

theorem kNat_le (k w d) : kNat k w d ≤ 15 := qnat_le _ _ _
theorem vNat_le (v d) : vNat v d ≤ 15 := qnat_le _ _ _

/-- The key of position `t`: the cache, the window, the new token. -/
def key (c : Fin 32640 → Fin 64 → BitVec 8) (s z : Fin 1020 → Fin 128 → EReal) (k : Fin 128 → EReal)
    (w : Fin 128 → Fin 128 → EReal) (d : Fin 128) (t : ℕ) : EReal :=
  if h : t < 32640 then
    nib (c ⟨t, h⟩ ⟨d.val / 2, by omega⟩) d.val * s ⟨t / 32, by omega⟩ d + z ⟨t / 32, by omega⟩ d
  else if h' : t - 32640 < 128 then w ⟨t - 32640, h'⟩ d else kDeq k w d

/-- The value of position `t`: the cache, the window, the new token. -/
def value (c : Fin 32640 → Fin 64 → BitVec 8) (s z : Fin 32640 → Fin 4 → EReal) (v : Fin 128 → EReal)
    (w : Fin 128 → Fin 128 → EReal) (d : Fin 128) (t : ℕ) : EReal :=
  if h : t < 32640 then
    nib (c ⟨t, h⟩ ⟨d.val / 2, by omega⟩) d.val * s ⟨t, h⟩ (grp d) + z ⟨t, h⟩ (grp d)
  else if h' : t - 32640 < 128 then w ⟨t - 32640, h'⟩ d else vDeq v d

/-- The score of position `t` for the query `q`. -/
def score (q : Fin 128 → EReal) (ks : Fin 128 → ℕ → EReal) (t : ℕ) : EReal := (∑ d, q d * ks d t) * sc

/-- Unpacking a packed byte gives its codes back. -/
theorem nib_pack (c : Fin 128 → ℕ) (hc : ∀ d, c d ≤ 15) (d : Fin 128) :
    nib (pack (c ⟨2 * (d.val / 2), by omega⟩) (c ⟨2 * (d.val / 2) + 1, by omega⟩)) d.val = ((c d : ℝ) : EReal) := by
  unfold nib
  rw [pack_lo _ _ (hc _) (hc _), pack_hi _ _ (hc _) (hc _)]
  split
  · next h => rw [show (⟨2 * (d.val / 2), by omega⟩ : Fin 128) = d from Fin.ext (by show 2 * (d.val / 2) = d.val; omega)]
  · next h => rw [show (⟨2 * (d.val / 2) + 1, by omega⟩ : Fin 128) = d from Fin.ext (by show 2 * (d.val / 2) + 1 = d.val; omega)]

/-- The host's shift reads the same high code. -/
theorem nib_hi_host (φ : FTy) (c : BitVec 8) (d : ℕ) (h : ¬ d % 2 < 1) :
    FloatOps.sitofp (F := Ideal) φ (IntOp.shrsi .host (BitVec.setWidth 32 c) 4#32) = nib c d := by
  have e : ∀ c : BitVec 8, IntOp.shrsi .host (BitVec.setWidth 32 c) 4#32 = IntOp.shrsi .vector (BitVec.setWidth 32 c) 4#32 := by
    decide +kernel
  rw [e]
  exact nib_hi φ c d h

end Cert.Spec

end
-- ==== Proof.KernelQuant.lean ====
/- The quantiser's arrays as mathematics.

The quantiser's rows are the batch rows and heads in order: row `2 b + h` is head `h` of batch row `b`. -/
module

public import proofs.«01_k».proof.Proof.QuantStore
public import proofs.«01_k».proof.Proof.QuantArr
public import proofs.«01_k».proof.Proof.Spec

@[expose] public section

set_option maxRecDepth 16384

noncomputable section

open Idealize.ShloMosaic Idealize.SL

namespace Cert.KernelIdeal.Quant

open Cert.KernelIdeal Cert.KernelIdeal.Gen Cert.Quant

/-- The new key or value of batch row `b`, head `h`. -/
abbrev K (a : Vec Ideal S64x1x2x128 .bf16) (b : Fin 64) (h : Fin 2) : Fin 128 → EReal := fun d => a (ix4 b 0 h d)

/-- The window of batch row `b`, head `h`. -/
abbrev W (a : Vec Ideal S64x2x128x128 .bf16) (b : Fin 64) (h : Fin 2) : Fin 128 → Fin 128 → EReal := fun t d => a (ix4 b h t d)

/-- A new key or value, one row for each batch row and head. -/
def rows (a : Vec Ideal S64x1x2x128 .bf16) : Vec Ideal S128x128 .bf16 := shapeCast S128x128 a shapeCasts_S64x1x2x128_S128x128

/-- The last 32 tokens of a window, likewise. -/
def tail (a : Vec Ideal S64x2x128x128 .bf16) : Vec Ideal S128x32x128 .bf16 := fun (y : S128x32x128.Idx) =>
  shapeCast S128x128x128 a shapeCasts_S64x2x128x128_S128x128x128 (ix3 (y 0) ⟨96 + (y 1).val, by have h : (y 1).val < 32 := (y 1).isLt; omega⟩ (y 2))

variable (a1 a2 : Vec Ideal S64x1x2x128 .bf16) (a9 : Vec Ideal S64x2x128x128 .bf16)
  (b : Fin 64) (h : Fin 2) (d : Fin 128) (t : Fin 32) (g : Fin 4) (j : Fin 64)

/-- The row of batch row `b`, head `h`. -/
abbrev row : Fin 128 := ⟨b.val * 2 + h.val, by omega⟩

theorem rows_at : rows a1 (ix2 (row b h) d) = K a1 b h d := by
  pointwise [rows]
  rw [show (⟨(b.val * 2 + h.val) / 2, by omega⟩ : Fin 64) = b from Fin.ext (by show (b.val * 2 + h.val) / 2 = b.val; omega),
    show (⟨(b.val * 2 + h.val) % 2, by omega⟩ : Fin 2) = h from Fin.ext (by show (b.val * 2 + h.val) % 2 = h.val; omega)]

theorem tail_at : tail a9 (ix3 (row b h) t d) = W a9 b h ⟨96 + t.val, by omega⟩ d := by
  show shapeCast S128x128x128 a9 shapeCasts_S64x2x128x128_S128x128x128 (ix3 (row b h) ⟨96 + t.val, by omega⟩ d) = _
  pointwise
  rw [show (⟨(b.val * 2 + h.val) / 2, by omega⟩ : Fin 64) = b from Fin.ext (by show (b.val * 2 + h.val) / 2 = b.val; omega),
    show (⟨(b.val * 2 + h.val) % 2, by omega⟩ : Fin 2) = h from Fin.ext (by show (b.val * 2 + h.val) % 2 = h.val; omega)]

theorem tail_key (x : Fin 32) : (if h' : x.val < 31 then tail a9 (ix3 (row b h) ⟨x.val + 1, by omega⟩ d) else rows a1 (ix2 (row b h) d))
    = if h' : x.val < 31 then W a9 b h ⟨97 + x.val, by omega⟩ d else K a1 b h d := by
  split
  · rw [tail_at]
    exact congrArg (fun i => W a9 b h i d) (Fin.ext (by show 96 + (x.val + 1) = 97 + x.val; omega))
  · exact rows_at a1 b h d

theorem kLo_eq : kLo (rows a1) (tail a9) (row b h) d = Spec.kLo (K a1 b h) (W a9 b h) d := by
  unfold kLo Spec.kLo
  exact congrArg (fun f => Finset.univ.fold min ⊤ f) (funext (tail_key a1 a9 b h d))

theorem kHi_eq : kHi (rows a1) (tail a9) (row b h) d = Spec.kHi (K a1 b h) (W a9 b h) d := by
  unfold kHi Spec.kHi
  exact congrArg (fun f => Finset.univ.fold max ⊥ f) (funext (tail_key a1 a9 b h d))

theorem kNat_eq : kNat (rows a1) (tail a9) (row b h) d = Spec.kNat (K a1 b h) (W a9 b h) d := by
  rw [kNat, kLo_eq, kHi_eq, rows_at]; rfl

theorem vLo_eq : vLo (rows a2) (row b h) g = Spec.vLo (K a2 b h) g := by
  unfold vLo Spec.vLo
  exact congrArg (fun f => Finset.univ.fold min ⊤ f) (funext fun i => rows_at a2 b h _)

theorem vHi_eq : vHi (rows a2) (row b h) g = Spec.vHi (K a2 b h) g := by
  unfold vHi Spec.vHi
  exact congrArg (fun f => Finset.univ.fold max ⊥ f) (funext fun i => rows_at a2 b h _)

theorem vNat_eq : vNat (rows a2) (row b h) d = Spec.vNat (K a2 b h) d := by
  rw [vNat, vLo_eq, vHi_eq, rows_at]; rfl

/-- The packed codes of the new key. -/
theorem r18_at : shapeCast S64x2x1x64 (trunci 8 (out0_3 (rows a1) (rows a2) (tail a9)) natLt_8_32) shapeCasts_S128x64_S64x2x1x64 (ix4 b h 0 j)
    = pack (Spec.kNat (K a1 b h) (W a9 b h) ⟨2 * j.val, by omega⟩) (Spec.kNat (K a1 b h) (W a9 b h) ⟨2 * j.val + 1, by omega⟩) := by
  have e := out3_at (rows a1) (rows a2) (tail a9) (row b h) j
  generalize (out0_3 (rows a1) (rows a2) (tail a9)) = y at e ⊢
  rw [kNat_eq, kNat_eq] at e
  pointwise
  rw [e]
  exact trunc_pack _ _ (Spec.kNat_le _ _ _) (Spec.kNat_le _ _ _)

/-- The packed codes of the new value. -/
theorem r22_at : shapeCast S64x2x1x64 (trunci 8 (out0_6 (rows a1) (rows a2) (tail a9)) natLt_8_32) shapeCasts_S128x64_S64x2x1x64 (ix4 b h 0 j)
    = pack (Spec.vNat (K a2 b h) ⟨2 * j.val, by omega⟩) (Spec.vNat (K a2 b h) ⟨2 * j.val + 1, by omega⟩) := by
  have e := out6_at (rows a1) (rows a2) (tail a9) (row b h) j
  generalize (out0_6 (rows a1) (rows a2) (tail a9)) = y at e ⊢
  rw [vNat_eq, vNat_eq] at e
  pointwise
  rw [e]
  exact trunc_pack _ _ (Spec.vNat_le _ _) (Spec.vNat_le _ _)

/-- The new key's scales. -/
theorem r19_at : shapeCast S64x2x1x128 (out0_4 (rows a1) (rows a2) (tail a9)) shapeCasts_S128x128_S64x2x1x128 (ix4 b h 0 d)
    = Spec.kScale (K a1 b h) (W a9 b h) d := by
  have e := out4_at (rows a1) (rows a2) (tail a9) (row b h) d
  generalize (out0_4 (rows a1) (rows a2) (tail a9)) = y at e ⊢
  rw [kLo_eq, kHi_eq] at e
  pointwise
  exact e

/-- The new key's zeros. -/
theorem r20_at : shapeCast S64x2x1x128 (out0_5 (rows a1) (rows a2) (tail a9)) shapeCasts_S128x128_S64x2x1x128 (ix4 b h 0 d)
    = Spec.kLo (K a1 b h) (W a9 b h) d := by
  have e := out5_at (rows a1) (rows a2) (tail a9) (row b h) d
  generalize (out0_5 (rows a1) (rows a2) (tail a9)) = y at e ⊢
  rw [kLo_eq] at e
  pointwise
  exact e

/-- The new value's scales. -/
theorem r23_at : shapeCast S64x2x1x4 (out0_7 (rows a1) (rows a2) (tail a9)) shapeCasts_S128x4_S64x2x1x4 (ix4 b h 0 g)
    = Spec.vScale (K a2 b h) g := by
  have e := out7_at (rows a1) (rows a2) (tail a9) (row b h) g
  generalize (out0_7 (rows a1) (rows a2) (tail a9)) = y at e ⊢
  rw [vLo_eq, vHi_eq] at e
  pointwise
  exact e

/-- The new value's zeros. -/
theorem r24_at : shapeCast S64x2x1x4 (out0_8 (rows a1) (rows a2) (tail a9)) shapeCasts_S128x4_S64x2x1x4 (ix4 b h 0 g)
    = Spec.vLo (K a2 b h) g := by
  have e := out8_at (rows a1) (rows a2) (tail a9) (row b h) g
  generalize (out0_8 (rows a1) (rows a2) (tail a9)) = y at e ⊢
  rw [vLo_eq] at e
  pointwise
  exact e

/-- The new key as the attention reads it. -/
theorem r13_at : shapeCast S64x2x128 (out0_9 (rows a1) (rows a2) (tail a9)) shapeCasts_S128x128_S64x2x128 (ix3 b h d)
    = Spec.kDeq (K a1 b h) (W a9 b h) d := by
  have e := out9_at (rows a1) (rows a2) (tail a9) (row b h) d
  generalize (out0_9 (rows a1) (rows a2) (tail a9)) = y at e ⊢
  rw [kNat_eq, kLo_eq, kHi_eq] at e
  pointwise
  exact e

/-- The new value as the attention reads it. -/
theorem r14_at : shapeCast S64x2x128 (out0_10 (rows a1) (rows a2) (tail a9)) shapeCasts_S128x128_S64x2x128 (ix3 b h d)
    = Spec.vDeq (K a2 b h) d := by
  have e := out10_at (rows a1) (rows a2) (tail a9) (row b h) d
  generalize (out0_10 (rows a1) (rows a2) (tail a9)) = y at e ⊢
  rw [vNat_eq, vLo_eq, vHi_eq] at e
  pointwise
  exact e

end Cert.KernelIdeal.Quant

end
-- ==== Proof.Array.lean ====
/- The attention output after the run.

Point `t` of the grid holds row `t` of every operand (`blk1_0` to `blk1_10`) and writes row `t` of the output; so the
output array is `att` of each batch row's scores and values (`arr11`). -/
module

public import proofs.«01_k».proof.Proof.Out

@[expose] public section

set_option maxRecDepth 16384

noncomputable section

open Idealize.ShloMosaic Idealize.SL

namespace Cert.KernelIdeal.Attn

open Cert.KernelIdeal Cert.KernelIdeal.Gen Cert.Softmax

variable (V : (c : Dev nD) → (b : Ref sig .tc) → Buf (Elt Ideal) ((c.tc : Thread nD τ).loc b)) (c : Dev nD)

theorem lt64 (t : Fin cfg1.N) : t.val < 64 := t.isLt

/-- Every window's block index is the point. -/
theorem idx1 : ∀ t : Fin cfg1.N, win1_0.index t = ![t.val, 0, 0] ∧ win1_1.index t = ![t.val, 0, 0, 0] ∧ win1_2.index t = ![t.val, 0, 0] ∧ win1_3.index t = ![t.val, 0, 0] ∧ win1_4.index t = ![t.val, 0, 0, 0] ∧ win1_5.index t = ![t.val, 0, 0, 0] ∧ win1_6.index t = ![t.val, 0, 0, 0] ∧ win1_7.index t = ![t.val, 0, 0, 0] ∧ win1_8.index t = ![t.val, 0, 0, 0] ∧ win1_9.index t = ![t.val, 0, 0] ∧ win1_10.index t = ![t.val, 0, 0] ∧ win1_11.index t = ![t.val, 0, 0] :=
  (by decide +kernel : ∀ t : Fin grid1.N, _)

/-- Window 0's block at point `t` is row `t` of its array. -/
theorem blk1_0 (t : Fin cfg1.N) : (iblk1 V c 0 t : Vec Ideal S1x16x128 .bf16) = fun (y : S1x16x128.Idx) => V c main_v4 (ix3 ⟨t.val, lt64 t⟩ (y 1) (y 2)) := by
  funext y
  blk_ext! [iblk1, idx1 t]

/-- Window 1's block at point `t` is row `t` of its array. -/
theorem blk1_1 (t : Fin cfg1.N) : (iblk1 V c 1 t : Vec Ideal S1x2x64x32640 .i8) = fun (y : S1x2x64x32640.Idx) => V c main_v5 (ix4 ⟨t.val, lt64 t⟩ (y 1) (y 2) (y 3)) := by
  funext y
  blk_ext! [iblk1, idx1 t]

/-- Window 2's block at point `t` is row `t` of its array. -/
theorem blk1_2 (t : Fin cfg1.N) : (iblk1 V c 2 t : Vec Ideal S1x2040x128 .f32) = fun (y : S1x2040x128.Idx) => V c main_v7 (ix3 ⟨t.val, lt64 t⟩ (y 1) (y 2)) := by
  funext y
  blk_ext! [iblk1, idx1 t]

/-- Window 3's block at point `t` is row `t` of its array. -/
theorem blk1_3 (t : Fin cfg1.N) : (iblk1 V c 3 t : Vec Ideal S1x2040x128 .f32) = fun (y : S1x2040x128.Idx) => V c main_v9 (ix3 ⟨t.val, lt64 t⟩ (y 1) (y 2)) := by
  funext y
  blk_ext! [iblk1, idx1 t]

/-- Window 4's block at point `t` is row `t` of its array. -/
theorem blk1_4 (t : Fin cfg1.N) : (iblk1 V c 4 t : Vec Ideal S1x2x64x32640 .i8) = fun (y : S1x2x64x32640.Idx) => V c main_v10 (ix4 ⟨t.val, lt64 t⟩ (y 1) (y 2) (y 3)) := by
  funext y
  blk_ext! [iblk1, idx1 t]

/-- Window 5's block at point `t` is row `t` of its array. -/
theorem blk1_5 (t : Fin cfg1.N) : (iblk1 V c 5 t : Vec Ideal S1x2x4x32640 .f32) = fun (y : S1x2x4x32640.Idx) => V c main_v11 (ix4 ⟨t.val, lt64 t⟩ (y 1) (y 2) (y 3)) := by
  funext y
  blk_ext! [iblk1, idx1 t]

/-- Window 6's block at point `t` is row `t` of its array. -/
theorem blk1_6 (t : Fin cfg1.N) : (iblk1 V c 6 t : Vec Ideal S1x2x4x32640 .f32) = fun (y : S1x2x4x32640.Idx) => V c main_v12 (ix4 ⟨t.val, lt64 t⟩ (y 1) (y 2) (y 3)) := by
  funext y
  blk_ext! [iblk1, idx1 t]

/-- Window 7's block at point `t` is row `t` of its array. -/
theorem blk1_7 (t : Fin cfg1.N) : (iblk1 V c 7 t : Vec Ideal S1x2x128x128 .bf16) = fun (y : S1x2x128x128.Idx) => V c main_arg9 (ix4 ⟨t.val, lt64 t⟩ (y 1) (y 2) (y 3)) := by
  funext y
  blk_ext! [iblk1, idx1 t]

/-- Window 8's block at point `t` is row `t` of its array. -/
theorem blk1_8 (t : Fin cfg1.N) : (iblk1 V c 8 t : Vec Ideal S1x2x128x128 .bf16) = fun (y : S1x2x128x128.Idx) => V c main_arg10 (ix4 ⟨t.val, lt64 t⟩ (y 1) (y 2) (y 3)) := by
  funext y
  blk_ext! [iblk1, idx1 t]

/-- Window 9's block at point `t` is row `t` of its array. -/
theorem blk1_9 (t : Fin cfg1.N) : (iblk1 V c 9 t : Vec Ideal S1x2x128 .bf16) = fun (y : S1x2x128.Idx) => V c main_v13 (ix3 ⟨t.val, lt64 t⟩ (y 1) (y 2)) := by
  funext y
  blk_ext! [iblk1, idx1 t]

/-- Window 10's block at point `t` is row `t` of its array. -/
theorem blk1_10 (t : Fin cfg1.N) : (iblk1 V c 10 t : Vec Ideal S1x2x128 .bf16) = fun (y : S1x2x128.Idx) => V c main_v14 (ix3 ⟨t.val, lt64 t⟩ (y 1) (y 2)) := by
  funext y
  blk_ext! [iblk1, idx1 t]

/-- The attention output over whole arrays. -/
def attnArr : Vec Ideal S64x16x128 .bf16 := fun (j : S64x16x128.Idx) =>
  att (scAt (fun (y : S1x16x128.Idx) => V c main_v4 (ix3 (j 0) (y 1) (y 2))) (fun (y : S1x2x64x32640.Idx) => V c main_v5 (ix4 (j 0) (y 1) (y 2) (y 3))) (fun (y : S1x2040x128.Idx) => V c main_v7 (ix3 (j 0) (y 1) (y 2))) (fun (y : S1x2040x128.Idx) => V c main_v9 (ix3 (j 0) (y 1) (y 2))) (fun (y : S1x2x128x128.Idx) => V c main_arg9 (ix4 (j 0) (y 1) (y 2) (y 3))) (fun (y : S1x2x128.Idx) => V c main_v13 (ix3 (j 0) (y 1) (y 2))) ⟨(j 1).val / 8, by have : (j 1).val < 16 := (j 1).isLt; omega⟩ (j 1))
    (valAt (fun (y : S1x2x64x32640.Idx) => V c main_v10 (ix4 (j 0) (y 1) (y 2) (y 3))) (fun (y : S1x2x4x32640.Idx) => V c main_v11 (ix4 (j 0) (y 1) (y 2) (y 3))) (fun (y : S1x2x4x32640.Idx) => V c main_v12 (ix4 (j 0) (y 1) (y 2) (y 3))) (fun (y : S1x2x128x128.Idx) => V c main_arg10 (ix4 (j 0) (y 1) (y 2) (y 3))) (fun (y : S1x2x128.Idx) => V c main_v14 (ix3 (j 0) (y 1) (y 2))) ⟨(j 1).val / 8, by have : (j 1).val < 16 := (j 1).isLt; omega⟩ (j 2))

theorem arr11 : (dat1 V c).arrAt 11 cfg1.N = attnArr V c := by
  refine (dat1 V c).arrAt_eq_of_covers 11 _ (by decide +kernel) fun t _ y => ?_
  blk_simp
  rw [after1_11]
  unfold outsAt1
  have hy : ∀ y : S1x16x128.Idx, y = ix3 0 (y 1) (y 2) := fun y => by
    funext a
    fin_cases a
    · exact Fin.ext (by have : (y 0).val < 1 := (y 0).isLt; show (y 0).val = 0; omega)
    · rfl
    · rfl
  have e : (win1_11.blk t).view.emb y = (ix3 ⟨t.val, lt64 t⟩ (y 1) (y 2) : S64x16x128.Idx) := by
    blk_ext [idx1 t]
  rw [e]
  refine (congrArg _ (hy y)).trans ?_
  refine (out_at c (grid1.coords t) _ _ _ _ _ _ _ _ _ _ _ _ _ _ _ _ _ _ _ _ _ _ _ _ _ _ _ _ _ _ _ _ _ _ _ (y 1) (y 2)).trans ?_
  rw [blk1_0, blk1_1, blk1_2, blk1_3, blk1_4, blk1_5, blk1_6, blk1_7, blk1_8, blk1_9, blk1_10]
  rfl

end Cert.KernelIdeal.Attn

end
-- ==== Proof.HostRead.lean ====
/- What the host stretches around the two kernel calls leave in each array.

Before the first call the new rows and the key tail are reshaped; between the calls the queries, the cache and
the first call's dequantised rows are transposed and reshaped; after the second call the results are reshaped. Each
theorem reads one array at such a boundary as that movement of an argument or of a call's result. -/
module

public import proofs.«01_k».proof.Proof.Run

@[expose] public section

set_option maxRecDepth 16384

noncomputable section

open Idealize.ShloMosaic Idealize.ShloMosaic.TcCoe

namespace Cert.KernelIdeal.Gen

variable {F : FTy → Type} [FloatOps F]
variable (m : (ℓ : Loc nD τ sig) → Buf (Elt F) ℓ) (ρ : Dev nD → PrngReg)

/-- The first call's operand from main_arg1. -/
theorem V1_main_v0 (c : Dev nD) : V1 m ρ c main_v0 = shapeCast S128x128 (m ((c : Thread nD τ).loc main_arg1)) shapeCasts_S64x1x2x128_S128x128 := by
  show StableHlo.after hostOps0 (W0 m ρ c) (Proc.devRef .tc main_v0) = _
  after_results; rfl

/-- The first call's operand from main_arg2. -/
theorem V1_main_v1 (c : Dev nD) : V1 m ρ c main_v1 = shapeCast S128x128 (m ((c : Thread nD τ).loc main_arg2)) shapeCasts_S64x1x2x128_S128x128 := by
  show StableHlo.after hostOps0 (W0 m ρ c) (Proc.devRef .tc main_v1) = _
  after_results; rfl

/-- The first call's operand from main_arg9. -/
theorem V1_main_v2 (c : Dev nD) : V1 m ρ c main_v2 = shapeCast S128x128x128 (m ((c : Thread nD τ).loc main_arg9)) shapeCasts_S64x2x128x128_S128x128x128 := by
  show StableHlo.after hostOps0 (W0 m ρ c) (Proc.devRef .tc main_v2) = _
  after_results; rfl

/-- The second call's operand from main_arg0. -/
theorem V3_main_v4 (c : Dev nD) : V3 m ρ c main_v4 = shapeCast S64x16x128 (m ((c : Thread nD τ).loc main_arg0)) shapeCasts_S64x1x2048_S64x16x128 := by
  have e := W2_args m ρ c main_arg0 (by decide)
  show StableHlo.after hostOps1 (W2 m ρ c) (Proc.devRef .tc main_v4) = _
  after_results; exact congrArg (fun x => shapeCast S64x16x128 x shapeCasts_S64x1x2048_S64x16x128) e

/-- The second call's operand from main_arg3. -/
theorem V3_main_v5 (c : Dev nD) : V3 m ρ c main_v5 = transpose S64x2x64x32640 [0, 1, 3, 2] (m ((c : Thread nD τ).loc main_arg3)) transposes_S64x2x32640x64_S64x2x64x32640_0_1_3_2 := by
  have e := W2_args m ρ c main_arg3 (by decide)
  show StableHlo.after hostOps1 (W2 m ρ c) (Proc.devRef .tc main_v5) = _
  after_results; exact congrArg (fun x => transpose S64x2x64x32640 [0, 1, 3, 2] x transposes_S64x2x32640x64_S64x2x64x32640_0_1_3_2) e

/-- The second call's operand from main_arg6. -/
theorem V3_main_v10 (c : Dev nD) : V3 m ρ c main_v10 = transpose S64x2x64x32640 [0, 1, 3, 2] (m ((c : Thread nD τ).loc main_arg6)) transposes_S64x2x32640x64_S64x2x64x32640_0_1_3_2 := by
  have e := W2_args m ρ c main_arg6 (by decide)
  show StableHlo.after hostOps1 (W2 m ρ c) (Proc.devRef .tc main_v10) = _
  after_results; exact congrArg (fun x => transpose S64x2x64x32640 [0, 1, 3, 2] x transposes_S64x2x32640x64_S64x2x64x32640_0_1_3_2) e

/-- The second call's operand from main_arg4. -/
theorem V3_main_v7 (c : Dev nD) : V3 m ρ c main_v7 = shapeCast S64x2040x128 (transpose S64x1020x2x128 [0, 2, 1, 3] (m ((c : Thread nD τ).loc main_arg4)) transposes_S64x2x1020x128_S64x1020x2x128_0_2_1_3) shapeCasts_S64x1020x2x128_S64x2040x128 := by
  have e := W2_args m ρ c main_arg4 (by decide)
  show StableHlo.after hostOps1 (W2 m ρ c) (Proc.devRef .tc main_v7) = _
  after_results; exact congrArg (fun x => shapeCast S64x2040x128 (transpose S64x1020x2x128 [0, 2, 1, 3] x transposes_S64x2x1020x128_S64x1020x2x128_0_2_1_3) shapeCasts_S64x1020x2x128_S64x2040x128) e

/-- The second call's operand from main_arg5. -/
theorem V3_main_v9 (c : Dev nD) : V3 m ρ c main_v9 = shapeCast S64x2040x128 (transpose S64x1020x2x128 [0, 2, 1, 3] (m ((c : Thread nD τ).loc main_arg5)) transposes_S64x2x1020x128_S64x1020x2x128_0_2_1_3) shapeCasts_S64x1020x2x128_S64x2040x128 := by
  have e := W2_args m ρ c main_arg5 (by decide)
  show StableHlo.after hostOps1 (W2 m ρ c) (Proc.devRef .tc main_v9) = _
  after_results; exact congrArg (fun x => shapeCast S64x2040x128 (transpose S64x1020x2x128 [0, 2, 1, 3] x transposes_S64x2x1020x128_S64x1020x2x128_0_2_1_3) shapeCasts_S64x1020x2x128_S64x2040x128) e

/-- The second call's operand from main_arg7. -/
theorem V3_main_v11 (c : Dev nD) : V3 m ρ c main_v11 = transpose S64x2x4x32640 [0, 1, 3, 2] (m ((c : Thread nD τ).loc main_arg7)) transposes_S64x2x32640x4_S64x2x4x32640_0_1_3_2 := by
  have e := W2_args m ρ c main_arg7 (by decide)
  show StableHlo.after hostOps1 (W2 m ρ c) (Proc.devRef .tc main_v11) = _
  after_results; exact congrArg (fun x => transpose S64x2x4x32640 [0, 1, 3, 2] x transposes_S64x2x32640x4_S64x2x4x32640_0_1_3_2) e

/-- The second call's operand from main_arg8. -/
theorem V3_main_v12 (c : Dev nD) : V3 m ρ c main_v12 = transpose S64x2x4x32640 [0, 1, 3, 2] (m ((c : Thread nD τ).loc main_arg8)) transposes_S64x2x32640x4_S64x2x4x32640_0_1_3_2 := by
  have e := W2_args m ρ c main_arg8 (by decide)
  show StableHlo.after hostOps1 (W2 m ρ c) (Proc.devRef .tc main_v12) = _
  after_results; exact congrArg (fun x => transpose S64x2x4x32640 [0, 1, 3, 2] x transposes_S64x2x32640x4_S64x2x4x32640_0_1_3_2) e

/-- The second call reads main_arg9 itself. -/
theorem V3_main_arg9 (c : Dev nD) : V3 m ρ c main_arg9 = (m ((c : Thread nD τ).loc main_arg9)) := by
  exact W3_args m ρ c main_arg9 (by decide)

/-- The second call reads main_arg10 itself. -/
theorem V3_main_arg10 (c : Dev nD) : V3 m ρ c main_arg10 = (m ((c : Thread nD τ).loc main_arg10)) := by
  exact W3_args m ρ c main_arg10 (by decide)

/-- The second call's operand from the first call's result main_v3_6. -/
theorem V3_main_v13 (c : Dev nD) : V3 m ρ c main_v13 = shapeCast S64x2x128 ((dat0 (V1 m ρ) c).arrAt 9 cfg0.N) shapeCasts_S128x128_S64x2x128 := by
  have e := W2_arr m ρ c 9
  show StableHlo.after hostOps1 (W2 m ρ c) (Proc.devRef .tc main_v13) = _
  after_results; exact congrArg (fun x => shapeCast S64x2x128 x shapeCasts_S128x128_S64x2x128) e

/-- The second call's operand from the first call's result main_v3_7. -/
theorem V3_main_v14 (c : Dev nD) : V3 m ρ c main_v14 = shapeCast S64x2x128 ((dat0 (V1 m ρ) c).arrAt 10 cfg0.N) shapeCasts_S128x128_S64x2x128 := by
  have e := W2_arr m ρ c 10
  show StableHlo.after hostOps1 (W2 m ρ c) (Proc.devRef .tc main_v14) = _
  after_results; exact congrArg (fun x => shapeCast S64x2x128 x shapeCasts_S128x128_S64x2x128) e

/-- The first result is the second call's output array, reshaped. -/
theorem W5_main_v16 (c : Dev nD) : W5 m ρ c (Proc.devRef .tc main_v16) = shapeCast S64x1x2048 ((dat1 (V3 m ρ) c).arrAt 11 cfg1.N) shapeCasts_S64x16x128_S64x1x2048 := by
  have e := W4_arr m ρ c 11
  show StableHlo.after hostOps2 (W4 m ρ c) (Proc.devRef .tc main_v16) = _
  after_results; exact congrArg (fun x => shapeCast S64x1x2048 x shapeCasts_S64x16x128_S64x1x2048) e

/-- This result is the first call's output main_v3_0, narrowed to bytes and reshaped. -/
theorem W5_main_v18 (c : Dev nD) : W5 m ρ c (Proc.devRef .tc main_v18) = shapeCast S64x2x1x64 (trunci 8 ((dat0 (V1 m ρ) c).arrAt 3 cfg0.N) natLt_8_32) shapeCasts_S128x64_S64x2x1x64 := by
  have e := ((W4_of_ne m ρ c main_v3_0 (by decide)).trans (W3_of m ρ c main_v3_0 (by decide))).trans (W2_arr m ρ c 3)
  show StableHlo.after hostOps2 (W4 m ρ c) (Proc.devRef .tc main_v18) = _
  after_results; exact congrArg (fun x => shapeCast S64x2x1x64 (trunci 8 x natLt_8_32) shapeCasts_S128x64_S64x2x1x64) e

/-- This result is the first call's output main_v3_1, reshaped. -/
theorem W5_main_v19 (c : Dev nD) : W5 m ρ c (Proc.devRef .tc main_v19) = shapeCast S64x2x1x128 ((dat0 (V1 m ρ) c).arrAt 4 cfg0.N) shapeCasts_S128x128_S64x2x1x128 := by
  have e := ((W4_of_ne m ρ c main_v3_1 (by decide)).trans (W3_of m ρ c main_v3_1 (by decide))).trans (W2_arr m ρ c 4)
  show StableHlo.after hostOps2 (W4 m ρ c) (Proc.devRef .tc main_v19) = _
  after_results; exact congrArg (fun x => shapeCast S64x2x1x128 x shapeCasts_S128x128_S64x2x1x128) e

/-- This result is the first call's output main_v3_2, reshaped. -/
theorem W5_main_v20 (c : Dev nD) : W5 m ρ c (Proc.devRef .tc main_v20) = shapeCast S64x2x1x128 ((dat0 (V1 m ρ) c).arrAt 5 cfg0.N) shapeCasts_S128x128_S64x2x1x128 := by
  have e := ((W4_of_ne m ρ c main_v3_2 (by decide)).trans (W3_of m ρ c main_v3_2 (by decide))).trans (W2_arr m ρ c 5)
  show StableHlo.after hostOps2 (W4 m ρ c) (Proc.devRef .tc main_v20) = _
  after_results; exact congrArg (fun x => shapeCast S64x2x1x128 x shapeCasts_S128x128_S64x2x1x128) e

/-- This result is the first call's output main_v3_3, narrowed to bytes and reshaped. -/
theorem W5_main_v22 (c : Dev nD) : W5 m ρ c (Proc.devRef .tc main_v22) = shapeCast S64x2x1x64 (trunci 8 ((dat0 (V1 m ρ) c).arrAt 6 cfg0.N) natLt_8_32) shapeCasts_S128x64_S64x2x1x64 := by
  have e := ((W4_of_ne m ρ c main_v3_3 (by decide)).trans (W3_of m ρ c main_v3_3 (by decide))).trans (W2_arr m ρ c 6)
  show StableHlo.after hostOps2 (W4 m ρ c) (Proc.devRef .tc main_v22) = _
  after_results; exact congrArg (fun x => shapeCast S64x2x1x64 (trunci 8 x natLt_8_32) shapeCasts_S128x64_S64x2x1x64) e

/-- This result is the first call's output main_v3_4, reshaped. -/
theorem W5_main_v23 (c : Dev nD) : W5 m ρ c (Proc.devRef .tc main_v23) = shapeCast S64x2x1x4 ((dat0 (V1 m ρ) c).arrAt 7 cfg0.N) shapeCasts_S128x4_S64x2x1x4 := by
  have e := ((W4_of_ne m ρ c main_v3_4 (by decide)).trans (W3_of m ρ c main_v3_4 (by decide))).trans (W2_arr m ρ c 7)
  show StableHlo.after hostOps2 (W4 m ρ c) (Proc.devRef .tc main_v23) = _
  after_results; exact congrArg (fun x => shapeCast S64x2x1x4 x shapeCasts_S128x4_S64x2x1x4) e

/-- This result is the first call's output main_v3_5, reshaped. -/
theorem W5_main_v24 (c : Dev nD) : W5 m ρ c (Proc.devRef .tc main_v24) = shapeCast S64x2x1x4 ((dat0 (V1 m ρ) c).arrAt 8 cfg0.N) shapeCasts_S128x4_S64x2x1x4 := by
  have e := ((W4_of_ne m ρ c main_v3_5 (by decide)).trans (W3_of m ρ c main_v3_5 (by decide))).trans (W2_arr m ρ c 8)
  show StableHlo.after hostOps2 (W4 m ρ c) (Proc.devRef .tc main_v24) = _
  after_results; exact congrArg (fun x => shapeCast S64x2x1x4 x shapeCasts_S128x4_S64x2x1x4) e

end Cert.KernelIdeal.Gen

end
-- ==== Proof.KernelAttn.lean ====
/- The attention array as mathematics.

The attention reads its arguments moved: the codes with the position last, the scales and zeros of a head's keys one row
for each group and head, the query one row for each head's query row. -/
module

public import proofs.«01_k».proof.Proof.KernelQuant
public import proofs.«01_k».proof.Proof.Array
public import proofs.«01_k».proof.Proof.HostRead

@[expose] public section

set_option maxRecDepth 16384

noncomputable section

open Idealize.ShloMosaic Idealize.SL

namespace Cert.KernelIdeal.Attn

open Cert.KernelIdeal Cert.KernelIdeal.Gen Cert.Quant Cert.KernelIdeal.Quant

variable (a0 : Vec Ideal S64x1x2048 .bf16) (a1 a2 : Vec Ideal S64x1x2x128 .bf16)
  (a3 a6 : Vec Ideal S64x2x32640x64 .i8) (a4 a5 : Vec Ideal S64x2x1020x128 .f32)
  (a7 a8 : Vec Ideal S64x2x32640x4 .f32) (a9 a10 : Vec Ideal S64x2x128x128 .bf16)
  (k v : Vec Ideal S64x2x128 .bf16) (b : Fin 64) (h : Fin 2) (p : Fin 16) (d : Fin 128) (t : ℕ)

/-- The keys of batch row `b`, head `h`. -/
abbrev keys : Fin 128 → ℕ → EReal :=
  Spec.key (fun t i => a3 (ix4 b h t i)) (fun g d => a4 (ix4 b h g d)) (fun g d => a5 (ix4 b h g d)) (K a1 b h) (W a9 b h)

/-- The values of batch row `b`, head `h`. -/
abbrev vals : Fin 128 → ℕ → EReal :=
  Spec.value (fun t i => a6 (ix4 b h t i)) (fun t g => a7 (ix4 b h t g)) (fun t g => a8 (ix4 b h t g)) (K a2 b h) (W a10 b h)

/-- The query's row `p`. -/
abbrev Q : Fin 128 → EReal := fun d => a0 (ix3 b 0 ⟨p.val * 128 + d.val, by omega⟩)

/-- The rows of a head's groups, one for each group and head. -/
abbrev groups (a : Vec Ideal S64x2x1020x128 .f32) : Vec Ideal S64x2040x128 .f32 :=
  shapeCast S64x2040x128 (transpose S64x1020x2x128 [0, 2, 1, 3] a transposes_S64x2x1020x128_S64x1020x2x128_0_2_1_3) shapeCasts_S64x1020x2x128_S64x2040x128

theorem groups_at (g : Fin 1020) : groups a4 (ix3 b ⟨2 * g.val + h.val, by omega⟩ d) = a4 (ix4 b h g d) := by
  pointwise [groups]

theorem q_at : shapeCast S64x16x128 a0 shapeCasts_S64x1x2048_S64x16x128 (ix3 b p d) = Q a0 b p d := by
  pointwise

theorem keyAt_eq (hk : ∀ d, k (ix3 b h d) = Spec.kDeq (K a1 b h) (W a9 b h) d) :
    keyAt (fun (y : S1x2x64x32640.Idx) => transpose S64x2x64x32640 [0, 1, 3, 2] a3 transposes_S64x2x32640x64_S64x2x64x32640_0_1_3_2 (ix4 b (y 1) (y 2) (y 3)))
      (fun (y : S1x2040x128.Idx) => groups a4 (ix3 b (y 1) (y 2))) (fun (y : S1x2040x128.Idx) => groups a5 (ix3 b (y 1) (y 2)))
      (fun (y : S1x2x128x128.Idx) => a9 (ix4 b (y 1) (y 2) (y 3))) (fun (y : S1x2x128.Idx) => k (ix3 b (y 1) (y 2))) h d t
    = keys a1 a3 a4 a5 a9 b h d t := by
  unfold keyAt keyC keys Spec.key
  split
  · next ht =>
    have e4 := groups_at a4 b h d ⟨t / 32, by omega⟩
    have e5 := groups_at a5 b h d ⟨t / 32, by omega⟩
    refine congrArg₂ (· + ·) (congrArg₂ (· * ·) (congrArg (fun c => nib c d.val) ?_) e4) e5
    show transpose S64x2x64x32640 [0, 1, 3, 2] a3 transposes_S64x2x32640x64_S64x2x64x32640_0_1_3_2 (ix4 b h ⟨d.val / 2, by omega⟩ ⟨t, ht⟩) = _
    pointwise
  · split
    · rfl
    · exact hk d

theorem valAt_eq (hv : ∀ d, v (ix3 b h d) = Spec.vDeq (K a2 b h) d) :
    valAt (fun (y : S1x2x64x32640.Idx) => transpose S64x2x64x32640 [0, 1, 3, 2] a6 transposes_S64x2x32640x64_S64x2x64x32640_0_1_3_2 (ix4 b (y 1) (y 2) (y 3)))
      (fun (y : S1x2x4x32640.Idx) => transpose S64x2x4x32640 [0, 1, 3, 2] a7 transposes_S64x2x32640x4_S64x2x4x32640_0_1_3_2 (ix4 b (y 1) (y 2) (y 3)))
      (fun (y : S1x2x4x32640.Idx) => transpose S64x2x4x32640 [0, 1, 3, 2] a8 transposes_S64x2x32640x4_S64x2x4x32640_0_1_3_2 (ix4 b (y 1) (y 2) (y 3)))
      (fun (y : S1x2x128x128.Idx) => a10 (ix4 b (y 1) (y 2) (y 3))) (fun (y : S1x2x128.Idx) => v (ix3 b (y 1) (y 2))) h d t
    = vals a2 a6 a7 a8 a10 b h d t := by
  unfold valAt valC vals Spec.value
  split
  · next ht =>
    refine congrArg₂ (· + ·) (congrArg₂ (· * ·) (congrArg (fun c => nib c d.val) ?_) ?_) ?_
    · show transpose S64x2x64x32640 [0, 1, 3, 2] a6 transposes_S64x2x32640x64_S64x2x64x32640_0_1_3_2 (ix4 b h ⟨d.val / 2, by omega⟩ ⟨t, ht⟩) = _
      pointwise
    · show transpose S64x2x4x32640 [0, 1, 3, 2] a7 transposes_S64x2x32640x4_S64x2x4x32640_0_1_3_2 (ix4 b h ⟨d.val / 32, by omega⟩ ⟨t, ht⟩) = _
      pointwise
    · show transpose S64x2x4x32640 [0, 1, 3, 2] a8 transposes_S64x2x32640x4_S64x2x4x32640_0_1_3_2 (ix4 b h ⟨d.val / 32, by omega⟩ ⟨t, ht⟩) = _
      pointwise
  · split
    · rfl
    · exact hv d

theorem scAt_eq (hk : ∀ d, k (ix3 b h d) = Spec.kDeq (K a1 b h) (W a9 b h) d) :
    scAt (fun (y : S1x16x128.Idx) => shapeCast S64x16x128 a0 shapeCasts_S64x1x2048_S64x16x128 (ix3 b (y 1) (y 2)))
      (fun (y : S1x2x64x32640.Idx) => transpose S64x2x64x32640 [0, 1, 3, 2] a3 transposes_S64x2x32640x64_S64x2x64x32640_0_1_3_2 (ix4 b (y 1) (y 2) (y 3)))
      (fun (y : S1x2040x128.Idx) => groups a4 (ix3 b (y 1) (y 2))) (fun (y : S1x2040x128.Idx) => groups a5 (ix3 b (y 1) (y 2)))
      (fun (y : S1x2x128x128.Idx) => a9 (ix4 b (y 1) (y 2) (y 3))) (fun (y : S1x2x128.Idx) => k (ix3 b (y 1) (y 2))) h p t
    = Spec.score (Q a0 b p) (keys a1 a3 a4 a5 a9 b h) t := by
  unfold scAt Spec.score
  refine congrArg (· * sc) (Finset.sum_congr rfl fun d _ => congrArg₂ (· * ·) (q_at a0 b p d) (keyAt_eq a1 a3 a4 a5 a9 k b h d t hk))

variable (m : (ℓ : Loc nD τ sig) → Buf (Elt Ideal) ℓ) (ρ : Dev nD → PrngReg) (c : Dev nD)

theorem k13 (b : Fin 64) (h : Fin 2) (d : Fin 128) : V3 m ρ c main_v13 (ix3 b h d)
    = Spec.kDeq (K (m ((c.tc : Thread nD τ).loc main_arg1)) b h) (W (m ((c.tc : Thread nD τ).loc main_arg9)) b h) d := by
  rw [V3_main_v13, arr0_9, V1_main_v0, V1_main_v1]
  rw [show wins (V1 m ρ) c = tail (m ((c.tc : Thread nD τ).loc main_arg9)) from by unfold wins; rw [V1_main_v2]; rfl]
  exact r13_at _ _ _ b h d

theorem v14 (b : Fin 64) (h : Fin 2) (d : Fin 128) : V3 m ρ c main_v14 (ix3 b h d)
    = Spec.vDeq (K (m ((c.tc : Thread nD τ).loc main_arg2)) b h) d := by
  rw [V3_main_v14, arr0_10, V1_main_v0, V1_main_v1]
  rw [show wins (V1 m ρ) c = tail (m ((c.tc : Thread nD τ).loc main_arg9)) from by unfold wins; rw [V1_main_v2]; rfl]
  exact r14_at _ _ _ b h d

/-- The attention's array: query row `p` under its head, dimension `d`. -/
theorem attn_at (b : Fin 64) (p : Fin 16) (d : Fin 128) : attnArr (V3 m ρ) c (ix3 b p d)
    = att (Spec.score (Q (m ((c.tc : Thread nD τ).loc main_arg0)) b p)
          (keys (m ((c.tc : Thread nD τ).loc main_arg1)) (m ((c.tc : Thread nD τ).loc main_arg3)) (m ((c.tc : Thread nD τ).loc main_arg4))
            (m ((c.tc : Thread nD τ).loc main_arg5)) (m ((c.tc : Thread nD τ).loc main_arg9)) b ⟨p.val / 8, by omega⟩))
        (vals (m ((c.tc : Thread nD τ).loc main_arg2)) (m ((c.tc : Thread nD τ).loc main_arg6)) (m ((c.tc : Thread nD τ).loc main_arg7))
            (m ((c.tc : Thread nD τ).loc main_arg8)) (m ((c.tc : Thread nD τ).loc main_arg10)) b ⟨p.val / 8, by omega⟩ d) := by
  unfold attnArr
  rw [V3_main_v4, V3_main_v5, V3_main_v7, V3_main_v9, V3_main_arg9, V3_main_v10, V3_main_v11, V3_main_v12, V3_main_arg10]
  refine congrArg₂ att (funext fun t => ?_) (funext fun t => ?_)
  · exact scAt_eq _ _ _ _ _ _ _ b ⟨p.val / 8, by omega⟩ p t (k13 m ρ c b _)
  · exact valAt_eq _ _ _ _ _ _ b ⟨p.val / 8, by omega⟩ d t (v14 m ρ c b _)

end Cert.KernelIdeal.Attn

end
-- ==== Proof.RefQuant.lean ====
/- The reference's quantiser, read at an index.

`K`, `W` are the new key (or value) and the window of one batch row and head. -/
module

public import proofs.«01_k».proof.Proof.Spec
public import proofs.«01_k».proof.Proof.Gen.ReferenceIdeal.Read
public import Idealize.ShloMosaic.Lib.Pointwise

@[expose] public section

set_option maxRecDepth 16384

noncomputable section

open Idealize.ShloMosaic

namespace Cert.ReferenceIdeal.At

open Cert.ReferenceIdeal Cert.ReferenceIdeal.Gen Cert.ReferenceIdeal.Read Cert.Quant Cert.Spec

/-- One row of new tokens. -/
abbrev K (x1 : (⟨S64x1x2x128, .bf16⟩ : BufTy).Contents (Elt Ideal)) (b : Fin 64) (h : Fin 2) : Fin 128 → EReal :=
  fun d => x1 (ix4 b 0 h d)

/-- One row of the window. -/
abbrev W (x9 : (⟨S64x2x128x128, .bf16⟩ : BufTy).Contents (Elt Ideal)) (b : Fin 64) (h : Fin 2) : Fin 128 → Fin 128 → EReal :=
  fun t d => x9 (ix4 b h t d)

variable (x1 x2 : (⟨S64x1x2x128, .bf16⟩ : BufTy).Contents (Elt Ideal)) (x9 : (⟨S64x2x128x128, .bf16⟩ : BufTy).Contents (Elt Ideal))
  (b : Fin 64) (h : Fin 2) (d : Fin 128) (g : Fin 4) (i : Fin 32) (j : Fin 64)

theorem pinf : Ideal.ofBits FTy.f32 2139095040#32 = ⊤ := by simp [Ideal.ofBits, Ideal.ieee]
theorem ninf : Ideal.ofBits FTy.f32 4286578688#32 = ⊥ := by simp [Ideal.ofBits, Ideal.ieee]
theorem one32 : Ideal.ofBits FTy.f32 1065353216#32 = 1 := by
  have h : Ideal.ofBits FTy.f32 1065353216#32 = ((1 : ℝ) : EReal) := by
    simp [Ideal.ofBits, Ideal.ieee]; rw [← EReal.coe_mul]; norm_num
  rw [h, EReal.coe_one]

theorem v4_at : val_main_v4 (F := Ideal) x1 x9 (ix4 b h i d) = if h' : i.val < 31 then W x9 b h ⟨97 + i.val, by omega⟩ d else K x1 b h d := by
  pointwise [val_main_v4, val_main_v3, val_main_v1]
  split
  · rfl
  · next h' =>
    have e : (⟨i.val - 31, by omega⟩ : Fin 1) = 0 := Fin.ext (by show i.val - 31 = 0; omega)
    rw [e]

theorem v7_at : val_main_v7 (F := Ideal) x1 x9 (ix4 b h 0 d) = kLo (K x1 b h) (W x9 b h) d := by
  pointwise [val_main_v7, val_main_v6, val_main_v5, val_main_cst]
  simp only [v4_at, pinf]
  rfl

theorem v9_at : val_main_v9 (F := Ideal) x1 x9 (ix4 b h 0 d) = kHi (K x1 b h) (W x9 b h) d := by
  pointwise [val_main_v9, val_main_v8, val_main_v5, val_main_cst_0]
  simp only [v4_at, ninf]
  rfl

theorem call0_at : val_main_call0_v1 (F := Ideal) (ix4 b h 0 d) = 1 := by
  rw [val_main_call0_v1_apply, val_main_call0_v0_apply, val_main_cst_3_apply]
  exact one32

theorem v15_at : val_main_v15 (F := Ideal) x1 x9 (ix4 b h 0 d) = kScale (K x1 b h) (W x9 b h) d := by
  rw [kScale, qscale, ← v7_at, ← v9_at]
  pointwise [val_main_v15, val_main_v14, val_main_v13, val_main_v12, val_main_v11, val_main_v10, val_main_cst_1, val_main_cst_2]
  rw [call0_at]

theorem v20_at : val_main_v20 (F := Ideal) x1 x9 (ix4 b h 0 d) = ((kNat (K x1 b h) (W x9 b h) d : ℝ) : EReal) := by
  rw [kNat, ← qcode_eq, qcode, ← kScale, ← v7_at, ← v15_at]
  have e2 : val_main_call2_v1 (F := Ideal) (ix4 b h 0 d) = 0 := by
    rw [val_main_call2_v1_apply, val_main_call2_v0_apply, val_main_cst_4_apply]
    show Ideal.ofBits FTy.f32 0#32 = 0
    simp [Ideal.ofBits, Ideal.ieee]
  have e4 : val_main_call2_v4 (F := Ideal) (ix4 b h 0 d) = Ideal.ofBits FTy.f32 1097859072#32 := by
    rw [val_main_call2_v4_apply, val_main_call2_v3_apply, val_main_cst_5_apply]
    rfl
  pointwise [val_main_v20, val_main_call2_v2, val_main_v19, val_main_v18, val_main_v17, val_main_v16, val_main_v1]
  rw [e2, e4]

theorem v21_at : val_main_v21 (F := Ideal) x1 x9 (ix4 b h 0 d) = BitVec.ofNat 32 (kNat (K x1 b h) (W x9 b h) d) := by
  have := kNat_le (K x1 b h) (W x9 b h) d
  rw [val_main_v21_apply, v20_at]
  exact fptosi_nat .f32 _ (by omega)

theorem v47_at : val_main_v47 (F := Ideal) x1 x9 (ix4 b h 0 j)
    = pack (kNat (K x1 b h) (W x9 b h) ⟨2 * j.val, by omega⟩) (kNat (K x1 b h) (W x9 b h) ⟨2 * j.val + 1, by omega⟩) := by
  pointwise [val_main_v47, val_main_v46, val_main_v45, val_main_v44, val_main_v43, val_main_v42, val_main_c]
  have e : (⟨1 + 2 * j.val, by omega⟩ : Fin 128) = ⟨2 * j.val + 1, by omega⟩ := Fin.ext (by show 1 + 2 * j.val = 2 * j.val + 1; omega)
  rw [e, v21_at, v21_at, ← shift_or _ _ (kNat_le _ _ _) (kNat_le _ _ _)]
  rfl

theorem v64_at : val_main_v64 (F := Ideal) x1 x9 (ix4 b h 0 d) = ((kNat (K x1 b h) (W x9 b h) d : ℝ) : EReal) := by
  rw [← nib_pack _ (kNat_le _ _)]
  have e := v47_at x1 x9 b h ⟨d.val / 2, by omega⟩
  rw [← e]
  pointwise [val_main_v64, val_main_v63, val_main_v62, val_main_v61, val_main_v60, val_main_v59, val_main_v58, val_main_v57, val_main_v56, val_main_v55, val_main_c_14, val_main_c_15]
  split
  · next h' => exact Cert.KernelIdeal.Attn.nib_lo .bf16 _ _ h'
  · next h' => exact nib_hi_host .bf16 _ _ h'

theorem v68_at : val_main_v68 (F := Ideal) x1 x9 (ix4 b h 0 d) = kDeq (K x1 b h) (W x9 b h) d := by
  rw [kDeq, ← v64_at, ← v7_at, ← v15_at]
  pointwise [val_main_v68, val_main_v67, val_main_v66, val_main_v65]

end Cert.ReferenceIdeal.At
end
-- ==== Proof.RefValue.lean ====
/- The reference's quantised value, read at an index: groups of 32 dimensions. -/
module

public import proofs.«01_k».proof.Proof.RefQuant
public import proofs.«01_k».proof.Proof.Gen.ReferenceIdeal.Read
public import Idealize.ShloMosaic.Lib.Pointwise

@[expose] public section

set_option maxRecDepth 16384

noncomputable section

open Idealize.ShloMosaic

namespace Cert.ReferenceIdeal.At

open Cert.ReferenceIdeal Cert.ReferenceIdeal.Gen Cert.ReferenceIdeal.Read Cert.Quant Cert.Spec

variable (x1 x2 : (⟨S64x1x2x128, .bf16⟩ : BufTy).Contents (Elt Ideal)) (x9 : (⟨S64x2x128x128, .bf16⟩ : BufTy).Contents (Elt Ideal))
  (b : Fin 64) (h : Fin 2) (d : Fin 128) (g : Fin 4) (i : Fin 32) (j : Fin 64)

theorem v25_at : val_main_v25 (F := Ideal) x2 (ix5 b h 0 g 0) = vLo (K x2 b h) g := by
  pointwise [val_main_v25, val_main_v24, val_main_v23, val_main_v22, val_main_v2, val_main_cst_6]
  rw [pinf, vLo]
  simp only [mul_comm g.val 32]

theorem v27_at : val_main_v27 (F := Ideal) x2 (ix5 b h 0 g 0) = vHi (K x2 b h) g := by
  pointwise [val_main_v27, val_main_v26, val_main_v23, val_main_v22, val_main_v2, val_main_cst_7]
  rw [ninf, vHi]
  simp only [mul_comm g.val 32]

theorem v33_at : val_main_v33 (F := Ideal) x2 (ix5 b h 0 g 0) = vScale (K x2 b h) g := by
  rw [vScale, qscale, ← v25_at, ← v27_at]
  have e : val_main_call3_v1 (F := Ideal) (ix5 b h 0 g 0) = 1 := by
    rw [val_main_call3_v1_apply, val_main_call3_v0_apply, val_main_cst_10_apply]
    exact one32
  pointwise [val_main_v33, val_main_v32, val_main_v31, val_main_v30, val_main_v29, val_main_v28, val_main_cst_8, val_main_cst_9]
  rw [e]

theorem grp_at : grp ⟨32 * g.val + i.val, by omega⟩ = g := Fin.ext (by show (32 * g.val + i.val) / 32 = g.val; omega)

theorem v40_at : val_main_v40 (F := Ideal) x2 (ix5 b h 0 g i) = ((vNat (K x2 b h) ⟨32 * g.val + i.val, by omega⟩ : ℝ) : EReal) := by
  rw [vNat, ← qcode_eq, qcode, grp_at, ← vScale, ← v25_at, ← v33_at]
  have e2 : val_main_call5_v1 (F := Ideal) (ix5 b h 0 g i) = 0 := by
    rw [val_main_call5_v1_apply, val_main_call5_v0_apply, val_main_cst_11_apply]
    show Ideal.ofBits FTy.f32 0#32 = 0
    simp [Ideal.ofBits, Ideal.ieee]
  have e4 : val_main_call5_v4 (F := Ideal) (ix5 b h 0 g i) = Ideal.ofBits FTy.f32 1097859072#32 := by
    rw [val_main_call5_v4_apply, val_main_call5_v3_apply, val_main_cst_12_apply]
    rfl
  pointwise [val_main_v40, val_main_call5_v2, val_main_v39, val_main_v38, val_main_v37, val_main_v36, val_main_v35, val_main_v34, val_main_v22, val_main_v2]
  rw [e2, e4]
  simp only [mul_comm g.val 32]

theorem v48_at : val_main_v48 (F := Ideal) x2 (ix4 b h 0 d) = BitVec.ofNat 32 (vNat (K x2 b h) d) := by
  have := vNat_le (K x2 b h) d
  have q := v40_at x2 b h (grp d) ⟨d.val % 32, by omega⟩
  have e : (⟨32 * (grp d).val + (⟨d.val % 32, by omega⟩ : Fin 32).val, by omega⟩ : Fin 128) = d :=
    Fin.ext (by show 32 * (d.val / 32) + d.val % 32 = d.val; omega)
  rw [e] at q
  pointwise [val_main_v48, val_main_v41]
  exact (congrArg _ q).trans (fptosi_nat .f32 _ (by omega))

theorem v54_at : val_main_v54 (F := Ideal) x2 (ix4 b h 0 j)
    = pack (vNat (K x2 b h) ⟨2 * j.val, by omega⟩) (vNat (K x2 b h) ⟨2 * j.val + 1, by omega⟩) := by
  pointwise [val_main_v54, val_main_v53, val_main_v52, val_main_v51, val_main_v50, val_main_v49, val_main_c_13]
  have e : (⟨1 + 2 * j.val, by omega⟩ : Fin 128) = ⟨2 * j.val + 1, by omega⟩ := Fin.ext (by show 1 + 2 * j.val = 2 * j.val + 1; omega)
  rw [e, v48_at, v48_at, ← shift_or _ _ (vNat_le _ _) (vNat_le _ _)]
  rfl

theorem v77_at : FloatOps.sitofp (F := Ideal) .bf16 (val_main_v77 (F := Ideal) x2 (ix4 b h 0 d)) = ((vNat (K x2 b h) d : ℝ) : EReal) := by
  rw [← nib_pack _ (vNat_le _)]
  have e := v54_at x2 b h ⟨d.val / 2, by omega⟩
  rw [← e]
  pointwise [val_main_v77, val_main_v76, val_main_v75, val_main_v74, val_main_v73, val_main_v72, val_main_v71, val_main_v70, val_main_v69, val_main_c_16, val_main_c_17]
  split
  · next h' => exact Cert.KernelIdeal.Attn.nib_lo .bf16 _ _ h'
  · next h' => exact nib_hi_host .bf16 _ _ h'

theorem v86_at : val_main_v86 (F := Ideal) x2 (ix4 b h 0 d) = vDeq (K x2 b h) d := by
  rw [vDeq, ← v77_at, ← v25_at, ← v33_at]
  pointwise [val_main_v86, val_main_v85, val_main_v84, val_main_v83, val_main_v82, val_main_v81, val_main_v80, val_main_v79, val_main_v78]

theorem v144_at : val_main_v144 (F := Ideal) x2 (ix4 b h 0 g) = vScale (K x2 b h) g := by
  rw [← v33_at]
  pointwise [val_main_v144]

theorem v145_at : val_main_v145 (F := Ideal) x2 (ix4 b h 0 g) = vLo (K x2 b h) g := by
  rw [← v25_at]
  pointwise [val_main_v145]

end Cert.ReferenceIdeal.At
end
-- ==== Proof.RefCache.lean ====
/- The reference's dequantised cache, read at an index. -/
module

public import proofs.«01_k».proof.Proof.Spec
public import proofs.«01_k».proof.Proof.Gen.ReferenceIdeal.Read
public import Idealize.ShloMosaic.Lib.Pointwise

@[expose] public section

set_option maxRecDepth 16384

noncomputable section

open Idealize.ShloMosaic

namespace Cert.ReferenceIdeal.At

open Cert.ReferenceIdeal Cert.ReferenceIdeal.Gen Cert.ReferenceIdeal.Read Cert.Quant Cert.Spec

variable (x3 x6 : (⟨S64x2x32640x64, .i8⟩ : BufTy).Contents (Elt Ideal)) (x4 x5 : (⟨S64x2x1020x128, .f32⟩ : BufTy).Contents (Elt Ideal))
  (x7 x8 : (⟨S64x2x32640x4, .f32⟩ : BufTy).Contents (Elt Ideal)) (b : Fin 64) (h : Fin 2) (d : Fin 128) (t : Fin 32640)

theorem v95_at : FloatOps.sitofp (F := Ideal) .bf16 (val_main_v95 (F := Ideal) x3 (ix4 b h t d))
    = Cert.KernelIdeal.Attn.nib (x3 (ix4 b h t ⟨d.val / 2, by omega⟩)) d.val := by
  pointwise [val_main_v95, val_main_v94, val_main_v93, val_main_v92, val_main_v91, val_main_v90, val_main_v89, val_main_v88, val_main_v87, val_main_c_18, val_main_c_19]
  split
  · next h' => exact Cert.KernelIdeal.Attn.nib_lo .bf16 _ _ h'
  · next h' => exact nib_hi_host .bf16 _ _ h'

theorem v106_at : val_main_v106 (F := Ideal) x3 x4 x5 (ix4 b h t d)
    = Cert.KernelIdeal.Attn.nib (x3 (ix4 b h t ⟨d.val / 2, by omega⟩)) d.val * x4 (ix4 b h ⟨t.val / 32, by omega⟩ d)
      + x5 (ix4 b h ⟨t.val / 32, by omega⟩ d) := by
  rw [← v95_at]
  pointwise [val_main_v106, val_main_v105, val_main_v104, val_main_v103, val_main_v102, val_main_v101, val_main_v100, val_main_v99, val_main_v98, val_main_v97, val_main_v96]

theorem v115_at : FloatOps.sitofp (F := Ideal) .bf16 (val_main_v115 (F := Ideal) x6 (ix4 b h t d))
    = Cert.KernelIdeal.Attn.nib (x6 (ix4 b h t ⟨d.val / 2, by omega⟩)) d.val := by
  pointwise [val_main_v115, val_main_v114, val_main_v113, val_main_v112, val_main_v111, val_main_v110, val_main_v109, val_main_v108, val_main_v107, val_main_c_20, val_main_c_21]
  split
  · next h' => exact Cert.KernelIdeal.Attn.nib_lo .bf16 _ _ h'
  · next h' => exact nib_hi_host .bf16 _ _ h'

theorem v126_at : val_main_v126 (F := Ideal) x6 x7 x8 (ix4 b h t d)
    = Cert.KernelIdeal.Attn.nib (x6 (ix4 b h t ⟨d.val / 2, by omega⟩)) d.val * x7 (ix4 b h t (grp d)) + x8 (ix4 b h t (grp d)) := by
  rw [← v115_at]
  pointwise [val_main_v126, val_main_v125, val_main_v124, val_main_v123, val_main_v122, val_main_v121, val_main_v120, val_main_v119, val_main_v118, val_main_v117, val_main_v116]

end Cert.ReferenceIdeal.At
end
-- ==== Proof.RefOut.lean ====
/- The reference's attention output, read at an index. -/
module

public import proofs.«01_k».proof.Proof.RefValue
public import proofs.«01_k».proof.Proof.RefCache

@[expose] public section

set_option maxRecDepth 16384

noncomputable section

open Idealize.ShloMosaic

namespace Cert.ReferenceIdeal.At

open Cert.ReferenceIdeal Cert.ReferenceIdeal.Gen Cert.ReferenceIdeal.Read Cert.Quant Cert.Spec Cert.KernelIdeal.Attn

variable (x0 : (⟨S64x1x2048, .bf16⟩ : BufTy).Contents (Elt Ideal)) (x1 x2 : (⟨S64x1x2x128, .bf16⟩ : BufTy).Contents (Elt Ideal))
  (x3 x6 : (⟨S64x2x32640x64, .i8⟩ : BufTy).Contents (Elt Ideal)) (x4 x5 : (⟨S64x2x1020x128, .f32⟩ : BufTy).Contents (Elt Ideal))
  (x7 x8 : (⟨S64x2x32640x4, .f32⟩ : BufTy).Contents (Elt Ideal)) (x9 x10 : (⟨S64x2x128x128, .bf16⟩ : BufTy).Contents (Elt Ideal))
  (b : Fin 64) (h : Fin 2) (p : Fin 8) (d : Fin 128) (t : Fin 32769)

/-- The query of row `p` under head `h`. -/
abbrev Q : Fin 128 → EReal := fun d => x0 (ix3 b 0 ⟨h.val * 1024 + p.val * 128 + d.val, by omega⟩)

/-- The keys of batch row `b`, head `h`. -/
abbrev keys : Fin 128 → ℕ → EReal :=
  key (fun t i => x3 (ix4 b h t i)) (fun g d => x4 (ix4 b h g d)) (fun g d => x5 (ix4 b h g d)) (K x1 b h) (W x9 b h)

/-- The values of batch row `b`, head `h`. -/
abbrev vals : Fin 128 → ℕ → EReal :=
  value (fun t i => x6 (ix4 b h t i)) (fun t g => x7 (ix4 b h t g)) (fun t g => x8 (ix4 b h t g)) (K x2 b h) (W x10 b h)

theorem v127_at : val_main_v127 (F := Ideal) x1 x3 x4 x5 x9 (ix4 b h t d) = keys x1 x3 x4 x5 x9 b h d t.val := by
  unfold keys key
  pointwise [val_main_v127]
  split
  · next h1 => exact v106_at x3 x4 x5 b h d ⟨t.val, h1⟩
  · split
    · rfl
    · next h1 h2 =>
      rw [show (⟨t.val - 32640 - 128, by omega⟩ : Fin 1) = 0 from Fin.ext (by show t.val - 32640 - 128 = 0; omega)]
      exact v68_at x1 x9 b h d

theorem v128_at : val_main_v128 (F := Ideal) x2 x6 x7 x8 x10 (ix4 b h t d) = vals x2 x6 x7 x8 x10 b h d t.val := by
  unfold vals value
  pointwise [val_main_v128]
  split
  · next h1 => exact v126_at x6 x7 x8 b h d ⟨t.val, h1⟩
  · split
    · rfl
    · next h1 h2 =>
      rw [show (⟨t.val - 32640 - 128, by omega⟩ : Fin 1) = 0 from Fin.ext (by show t.val - 32640 - 128 = 0; omega)]
      exact v86_at x2 b h d

theorem v131_at : val_main_v131 (F := Ideal) x0 x1 x3 x4 x5 x9 (ix4 b h p t)
    = score (Q x0 b h p) (keys x1 x3 x4 x5 x9 b h) t.val := by
  unfold score
  simp only [← v127_at]
  pointwise [val_main_v131, val_main_v130, val_main_v129, val_main_v0, val_main_cst_22]
  rfl

theorem v132_at : val_main_v132 (F := Ideal) x0 x1 x3 x4 x5 x9 (ix3 b h p)
    = Finset.univ.fold max ⊥ fun t : Fin 32769 => score (Q x0 b h p) (keys x1 x3 x4 x5 x9 b h) t.val := by
  simp only [← v131_at]
  pointwise [val_main_v132, val_main_cst_23]
  rw [ninf]

theorem v136_at : val_main_v136 (F := Ideal) x0 x1 x3 x4 x5 x9 (ix4 b h p t)
    = Ideal.exp (score (Q x0 b h p) (keys x1 x3 x4 x5 x9 b h) t.val
        - Finset.univ.fold max ⊥ fun t : Fin 32769 => score (Q x0 b h p) (keys x1 x3 x4 x5 x9 b h) t.val) := by
  rw [← v131_at, ← v132_at]
  pointwise [val_main_v136, val_main_v135, val_main_v134, val_main_v133]

theorem v141_at : val_main_v141 (F := Ideal) x0 x1 x2 x3 x4 x5 x6 x7 x8 x9 x10 (ix4 b h p d)
    = att (score (Q x0 b h p) (keys x1 x3 x4 x5 x9 b h)) (vals x2 x6 x7 x8 x10 b h d) := by
  unfold att
  simp only [← v136_at, ← v128_at]
  pointwise [val_main_v141, val_main_v140, val_main_v139, val_main_v138, val_main_v137, val_main_cst_24]

/-- Result 1: the attention output. -/
theorem v143_at (e : Fin 2048) : val_main_v143 (F := Ideal) x0 x1 x2 x3 x4 x5 x6 x7 x8 x9 x10 (ix3 b 0 e)
    = att (score (Q x0 b ⟨e.val / 1024, by omega⟩ ⟨e.val / 128 % 8, by omega⟩) (keys x1 x3 x4 x5 x9 b ⟨e.val / 1024, by omega⟩))
        (vals x2 x6 x7 x8 x10 b ⟨e.val / 1024, by omega⟩ ⟨e.val % 128, by omega⟩) := by
  rw [← v141_at]
  pointwise [val_main_v143, val_main_v142]

end Cert.ReferenceIdeal.At
end
-- ==== Proof.Results.lean ====
/- The two programs compute the same arrays.

Each result of the kernel program, as its run leaves it, is the reference's result on the same arguments. -/
module

public import proofs.«01_k».proof.Proof.KernelAttn
public import proofs.«01_k».proof.Proof.RefOut

@[expose] public section

set_option maxRecDepth 16384

noncomputable section

open Idealize.ShloMosaic Idealize.SL

namespace Cert.KernelIdeal.Results

open Cert.KernelIdeal Cert.KernelIdeal.Gen Cert.Quant Cert.KernelIdeal.Quant Cert.KernelIdeal.Attn
open Cert.ReferenceIdeal.Read Cert.ReferenceIdeal.At

variable (m : (ℓ : Loc nD τ sig) → Buf (Elt Ideal) ℓ) (ρ : Dev nD → PrngReg) (c : Dev nD)

theorem ix4_unit {n0 n1 n3 : ℕ} (y : Shape.Idx ⟨4, ![n0, n1, 1, n3]⟩) : y = ix4 (y 0) (y 1) 0 (y 3) := by
  funext a
  fin_cases a
  · rfl
  · rfl
  · exact Fin.ext (by have : (y 2).val < 1 := (y 2).isLt; show (y 2).val = 0; omega)
  · rfl

theorem ix3_unit {n0 n2 : ℕ} (y : Shape.Idx ⟨3, ![n0, 1, n2]⟩) : y = ix3 (y 0) 0 (y 2) := by
  funext a
  fin_cases a
  · rfl
  · exact Fin.ext (by have : (y 1).val < 1 := (y 1).isLt; show (y 1).val = 0; omega)
  · rfl

theorem wins_eq : wins (V1 m ρ) c = tail (m ((c.tc : Thread nD τ).loc main_arg9)) := by
  unfold wins
  rw [V1_main_v2]
  rfl

/-- Result 1 from the attention's array. -/
theorem v16_at (b : Fin 64) (e : Fin 2048) : (shapeCast S64x1x2048 (attnArr (V3 m ρ) c) shapeCasts_S64x16x128_S64x1x2048) (ix3 b 0 e)
    = attnArr (V3 m ρ) c (ix3 b ⟨e.val / 128, by omega⟩ ⟨e.val % 128, by omega⟩) := by
  generalize attnArr (V3 m ρ) c = y
  pointwise

theorem r1_at (b : Fin 64) (e : Fin 2048) : (shapeCast S64x1x2048 (attnArr (V3 m ρ) c) shapeCasts_S64x16x128_S64x1x2048) (ix3 b 0 e)
    = val_main_v143 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ix3 b 0 e) := by
  refine (v16_at m ρ c b e).trans ?_
  refine ((attn_at m ρ c b _ _).trans ?_).trans (v143_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) b e).symm
  have eh : (⟨e.val / 128 / 8, by omega⟩ : Fin 2) = ⟨e.val / 1024, by omega⟩ := Fin.ext (by show e.val / 128 / 8 = e.val / 1024; omega)
  have eq : Attn.Q (m ((c.tc : Thread nD τ).loc main_arg0)) b ⟨e.val / 128, by omega⟩ = ReferenceIdeal.At.Q (m ((c.tc : Thread nD τ).loc main_arg0)) b ⟨e.val / 1024, by omega⟩ ⟨e.val / 128 % 8, by omega⟩ :=
    funext fun d => congrArg (fun i : Fin 2048 => ((m ((c.tc : Thread nD τ).loc main_arg0)) : Vec Ideal S64x1x2048 .bf16) (ix3 b 0 i))
      (Fin.ext (by show e.val / 128 * 128 + d.val = e.val / 1024 * 1024 + e.val / 128 % 8 * 128 + d.val; omega))
  rw [eq]
  show att (Spec.score _ (Attn.keys _ _ _ _ _ b ⟨e.val / 128 / 8, _⟩)) (Attn.vals _ _ _ _ _ b ⟨e.val / 128 / 8, _⟩ _) = _
  rw [eh]

/-- Result 1: the attention output. -/
theorem r1 : (W5 m ρ c (Proc.devRef .tc main_v16) : Vec Ideal S64x1x2048 .bf16)
    = val_main_v143 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  rw [W5_main_v16, arr11]
  funext y
  rw [ix3_unit y]
  exact r1_at m ρ c (y 0) (y 2)

/-- Result 2: the new key's packed codes. -/
theorem r2 : (W5 m ρ c (Proc.devRef .tc main_v18) : Vec Ideal S64x2x1x64 .i8)
    = val_main_v47 (F := Ideal) (m ((c.tc : Thread nD τ).loc main_arg1)) (m ((c.tc : Thread nD τ).loc main_arg9)) := by
  rw [W5_main_v18, arr0_3, V1_main_v0, V1_main_v1, wins_eq]
  funext y
  rw [ix4_unit y]
  exact (r18_at (m ((c.tc : Thread nD τ).loc main_arg1)) (m ((c.tc : Thread nD τ).loc main_arg2)) (m ((c.tc : Thread nD τ).loc main_arg9)) (y 0) (y 1) (y 3)).trans (v47_at (m ((c.tc : Thread nD τ).loc main_arg1)) (m ((c.tc : Thread nD τ).loc main_arg9)) (y 0) (y 1) (y 3)).symm

/-- Result 3: the new key's scales. -/
theorem r3 : (W5 m ρ c (Proc.devRef .tc main_v19) : Vec Ideal S64x2x1x128 .f32)
    = val_main_v15 (F := Ideal) (m ((c.tc : Thread nD τ).loc main_arg1)) (m ((c.tc : Thread nD τ).loc main_arg9)) := by
  rw [W5_main_v19, arr0_4, V1_main_v0, V1_main_v1, wins_eq]
  funext y
  rw [ix4_unit y]
  exact (r19_at (m ((c.tc : Thread nD τ).loc main_arg1)) (m ((c.tc : Thread nD τ).loc main_arg2)) (m ((c.tc : Thread nD τ).loc main_arg9)) (y 0) (y 1) (y 3)).trans (v15_at (m ((c.tc : Thread nD τ).loc main_arg1)) (m ((c.tc : Thread nD τ).loc main_arg9)) (y 0) (y 1) (y 3)).symm

/-- Result 4: the new key's zeros. -/
theorem r4 : (W5 m ρ c (Proc.devRef .tc main_v20) : Vec Ideal S64x2x1x128 .f32)
    = val_main_v7 (F := Ideal) (m ((c.tc : Thread nD τ).loc main_arg1)) (m ((c.tc : Thread nD τ).loc main_arg9)) := by
  rw [W5_main_v20, arr0_5, V1_main_v0, V1_main_v1, wins_eq]
  funext y
  rw [ix4_unit y]
  exact (r20_at (m ((c.tc : Thread nD τ).loc main_arg1)) (m ((c.tc : Thread nD τ).loc main_arg2)) (m ((c.tc : Thread nD τ).loc main_arg9)) (y 0) (y 1) (y 3)).trans (v7_at (m ((c.tc : Thread nD τ).loc main_arg1)) (m ((c.tc : Thread nD τ).loc main_arg9)) (y 0) (y 1) (y 3)).symm

/-- Result 5: the new value's packed codes. -/
theorem r5 : (W5 m ρ c (Proc.devRef .tc main_v22) : Vec Ideal S64x2x1x64 .i8)
    = val_main_v54 (F := Ideal) (m ((c.tc : Thread nD τ).loc main_arg2)) := by
  rw [W5_main_v22, arr0_6, V1_main_v0, V1_main_v1, wins_eq]
  funext y
  rw [ix4_unit y]
  exact (r22_at (m ((c.tc : Thread nD τ).loc main_arg1)) (m ((c.tc : Thread nD τ).loc main_arg2)) (m ((c.tc : Thread nD τ).loc main_arg9)) (y 0) (y 1) (y 3)).trans (v54_at (m ((c.tc : Thread nD τ).loc main_arg2)) (y 0) (y 1) (y 3)).symm

/-- Result 6: the new value's scales. -/
theorem r6 : (W5 m ρ c (Proc.devRef .tc main_v23) : Vec Ideal S64x2x1x4 .f32)
    = val_main_v144 (F := Ideal) (m ((c.tc : Thread nD τ).loc main_arg2)) := by
  rw [W5_main_v23, arr0_7, V1_main_v0, V1_main_v1, wins_eq]
  funext y
  rw [ix4_unit y]
  exact (r23_at (m ((c.tc : Thread nD τ).loc main_arg1)) (m ((c.tc : Thread nD τ).loc main_arg2)) (m ((c.tc : Thread nD τ).loc main_arg9)) (y 0) (y 1) (y 3)).trans (v144_at (m ((c.tc : Thread nD τ).loc main_arg2)) (y 0) (y 1) (y 3)).symm

/-- Result 7: the new value's zeros. -/
theorem r7 : (W5 m ρ c (Proc.devRef .tc main_v24) : Vec Ideal S64x2x1x4 .f32)
    = val_main_v145 (F := Ideal) (m ((c.tc : Thread nD τ).loc main_arg2)) := by
  rw [W5_main_v24, arr0_8, V1_main_v0, V1_main_v1, wins_eq]
  funext y
  rw [ix4_unit y]
  exact (r24_at (m ((c.tc : Thread nD τ).loc main_arg1)) (m ((c.tc : Thread nD τ).loc main_arg2)) (m ((c.tc : Thread nD τ).loc main_arg9)) (y 0) (y 1) (y 3)).trans (v145_at (m ((c.tc : Thread nD τ).loc main_arg2)) (y 0) (y 1) (y 3)).symm

end Cert.KernelIdeal.Results

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal.Run
public import proofs.«01_k».proof.Proof.Gen.ReferenceIdeal.Read
public import proofs.«01_k».proof.Proof.Results
public import Idealize.ShloMosaic.Adequacy
public import Idealize.ShloMosaic.Init

@[expose] public section

set_option maxRecDepth 16384

noncomputable section

namespace Cert.Proof

open Idealize.ShloMosaic Idealize.SL.Sem

local instance : Cert.KernelIdeal.Facts := Cert.KernelIdeal.Gen.facts
local instance : Cert.ReferenceIdeal.Facts := Cert.ReferenceIdeal.Gen.facts

/-- The reference's run leaves its arguments unchanged; it declares no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2.2.2.2.2, Idealize.ShloMosaic.sem_eq_zero_of_no_sems (by decide) r.2⟩)
    (Cert.ReferenceIdeal.Value.run (F := Ideal) m ρ)

/-- The two programs end with equal results: the kernel's as its run leaves them, the reference's by `Results`. -/
theorem algebraic : Cert.algebraic_KernelIdeal_ReferenceIdeal (hKernelIdeal := Cert.KernelIdeal.Gen.facts) (hReferenceIdeal := Cert.ReferenceIdeal.Gen.facts) := by
  intro m ρ m' ρ' _ hm
  refine ⟨fun c => Cert.KernelIdeal.Gen.W5 m ρ c (Proc.devRef .tc Cert.KernelIdeal.main_v16),
    fun c => Cert.KernelIdeal.Gen.W5 m ρ c (Proc.devRef .tc Cert.KernelIdeal.main_v18),
    fun c => Cert.KernelIdeal.Gen.W5 m ρ c (Proc.devRef .tc Cert.KernelIdeal.main_v19),
    fun c => Cert.KernelIdeal.Gen.W5 m ρ c (Proc.devRef .tc Cert.KernelIdeal.main_v20),
    fun c => Cert.KernelIdeal.Gen.W5 m ρ c (Proc.devRef .tc Cert.KernelIdeal.main_v22),
    fun c => Cert.KernelIdeal.Gen.W5 m ρ c (Proc.devRef .tc Cert.KernelIdeal.main_v23),
    fun c => Cert.KernelIdeal.Gen.W5 m ρ c (Proc.devRef .tc Cert.KernelIdeal.main_v24),
    Cert.KernelIdeal.Gen.run_results m ρ, ?_⟩
  refine (θ_run Cert.ReferenceIdeal.defs _ _).mono (fun r h c => ?_) (Cert.ReferenceIdeal.Value.run (F := Ideal) m' ρ')
  obtain ⟨e0, e1, e2, e3, e4, e5, e6, e7, e8, e9, e10⟩ := hm c
  have f0 : StableHlo.launchContents m' c (Proc.devRef .tc Cert.ReferenceIdeal.main_arg0) = m ((c.tc : Thread Cert.KernelIdeal.nD Cert.KernelIdeal.τ).loc Cert.KernelIdeal.main_arg0) := e0
  have f1 : StableHlo.launchContents m' c (Proc.devRef .tc Cert.ReferenceIdeal.main_arg1) = m ((c.tc : Thread Cert.KernelIdeal.nD Cert.KernelIdeal.τ).loc Cert.KernelIdeal.main_arg1) := e1
  have f2 : StableHlo.launchContents m' c (Proc.devRef .tc Cert.ReferenceIdeal.main_arg2) = m ((c.tc : Thread Cert.KernelIdeal.nD Cert.KernelIdeal.τ).loc Cert.KernelIdeal.main_arg2) := e2
  have f3 : StableHlo.launchContents m' c (Proc.devRef .tc Cert.ReferenceIdeal.main_arg3) = m ((c.tc : Thread Cert.KernelIdeal.nD Cert.KernelIdeal.τ).loc Cert.KernelIdeal.main_arg3) := e3
  have f4 : StableHlo.launchContents m' c (Proc.devRef .tc Cert.ReferenceIdeal.main_arg4) = m ((c.tc : Thread Cert.KernelIdeal.nD Cert.KernelIdeal.τ).loc Cert.KernelIdeal.main_arg4) := e4
  have f5 : StableHlo.launchContents m' c (Proc.devRef .tc Cert.ReferenceIdeal.main_arg5) = m ((c.tc : Thread Cert.KernelIdeal.nD Cert.KernelIdeal.τ).loc Cert.KernelIdeal.main_arg5) := e5
  have f6 : StableHlo.launchContents m' c (Proc.devRef .tc Cert.ReferenceIdeal.main_arg6) = m ((c.tc : Thread Cert.KernelIdeal.nD Cert.KernelIdeal.τ).loc Cert.KernelIdeal.main_arg6) := e6
  have f7 : StableHlo.launchContents m' c (Proc.devRef .tc Cert.ReferenceIdeal.main_arg7) = m ((c.tc : Thread Cert.KernelIdeal.nD Cert.KernelIdeal.τ).loc Cert.KernelIdeal.main_arg7) := e7
  have f8 : StableHlo.launchContents m' c (Proc.devRef .tc Cert.ReferenceIdeal.main_arg8) = m ((c.tc : Thread Cert.KernelIdeal.nD Cert.KernelIdeal.τ).loc Cert.KernelIdeal.main_arg8) := e8
  have f9 : StableHlo.launchContents m' c (Proc.devRef .tc Cert.ReferenceIdeal.main_arg9) = m ((c.tc : Thread Cert.KernelIdeal.nD Cert.KernelIdeal.τ).loc Cert.KernelIdeal.main_arg9) := e9
  have f10 : StableHlo.launchContents m' c (Proc.devRef .tc Cert.ReferenceIdeal.main_arg10) = m ((c.tc : Thread Cert.KernelIdeal.nD Cert.KernelIdeal.τ).loc Cert.KernelIdeal.main_arg10) := e10
  obtain ⟨h0, h1, h2, h3, h4, h5, h6, hargs⟩ := h c
  refine ⟨h0.trans ?_, h1.trans ?_, h2.trans ?_, h3.trans ?_, h4.trans ?_, h5.trans ?_, h6.trans ?_, hargs⟩
  · refine (Cert.ReferenceIdeal.Read.val_main_v143_eq (F := Ideal) (StableHlo.launchContents m' c)).trans (Eq.trans ?_ (Cert.KernelIdeal.Results.r1 m ρ c).symm)
    rw [f0, f1, f2, f3, f4, f5, f6, f7, f8, f9, f10]
  · refine (Cert.ReferenceIdeal.Read.val_main_v47_eq (F := Ideal) (StableHlo.launchContents m' c)).trans (Eq.trans ?_ (Cert.KernelIdeal.Results.r2 m ρ c).symm)
    rw [f1, f9]
  · refine (Cert.ReferenceIdeal.Read.val_main_v15_eq (F := Ideal) (StableHlo.launchContents m' c)).trans (Eq.trans ?_ (Cert.KernelIdeal.Results.r3 m ρ c).symm)
    rw [f1, f9]
  · refine (Cert.ReferenceIdeal.Read.val_main_v7_eq (F := Ideal) (StableHlo.launchContents m' c)).trans (Eq.trans ?_ (Cert.KernelIdeal.Results.r4 m ρ c).symm)
    rw [f1, f9]
  · refine (Cert.ReferenceIdeal.Read.val_main_v54_eq (F := Ideal) (StableHlo.launchContents m' c)).trans (Eq.trans ?_ (Cert.KernelIdeal.Results.r5 m ρ c).symm)
    rw [f2]
  · refine (Cert.ReferenceIdeal.Read.val_main_v144_eq (F := Ideal) (StableHlo.launchContents m' c)).trans (Eq.trans ?_ (Cert.KernelIdeal.Results.r6 m ρ c).symm)
    rw [f2]
  · refine (Cert.ReferenceIdeal.Read.val_main_v145_eq (F := Ideal) (StableHlo.launchContents m' c)).trans (Eq.trans ?_ (Cert.KernelIdeal.Results.r7 m ρ c).symm)
    rw [f2]

theorem claim : Cert.Claim :=
  ⟨Cert.Kernel.Gen.facts, Cert.KernelIdeal.Gen.facts, Cert.ReferenceIdeal.Gen.facts, fun m ρ _ => Cert.Kernel.Gen.frame m ρ,
    fun m ρ _ => Cert.KernelIdeal.Gen.frame m ρ, frame_reference, trivial, algebraic⟩

end Cert.Proof

end
